-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![4, 256, 256]⟩ ⟨3, ![4, 1024, 256]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4, 256, 16]⟩ ⟨3, ![4, 1024, 16]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 16]⟩ ⟨3, ![4, 1024, 16]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 256]⟩ ⟨3, ![4, 1024, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8_8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x256 : Shape := ⟨3, ![4, 256, 256]⟩
abbrev S256x16 : Shape := ⟨2, ![256, 16]⟩
abbrev S4x256x16 : Shape := ⟨3, ![4, 256, 16]⟩
abbrev S_ : Shape := ⟨0, ![]⟩

class Facts : Prop where
  bitsLt_bf16_f32 : FTy.bits .bf16 < FTy.bits .f32
  bcast_S_S4x256x256 : S_.BroadcastsInDim S4x256x256 (![] : Fin 0 → Fin S4x256x256.rank)
  bcast_S_S256x16 : S_.BroadcastsInDim S256x16 (![] : Fin 0 → Fin S256x16.rank)
  bcast_S_S4x256x16 : S_.BroadcastsInDim S4x256x16 (![] : Fin 0 → Fin S4x256x16.rank)

variable [Facts]

def fn {F : FTy → Type} [FloatOps F] (main_arg0 : FVec F S4x256x256 .bf16) (main_arg1 : FVec F S256x16 .bf16) (main_arg2 : FVec F S4x256x16 .bf16) (main_arg3 : FVec F S4x256x16 .bf16) : IVec S4x256x256 1 × IVec S256x16 1 × IVec S4x256x16 1 × IVec S4x256x16 1 :=
  let main_v0 : FVec F S4x256x256 .f32 := (extf .f32 · bitsLt_bf16_f32) main_arg0
  let main_v1 : FVec F S4x256x256 .f32 := Host.absf main_v0
  let main_cst : FVec F S_ .f32 := constant S_ .f32 0x7F800000#32
  let main_v2 : FVec F S4x256x256 .f32 := broadcastInDim S4x256x256 ![] bcast_S_S4x256x256 main_cst
  let main_v3 : IVec S4x256x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  let main_v8 : FVec F S4x256x16 .f32 := (extf .f32 · bitsLt_bf16_f32) main_arg2
  let main_v9 : FVec F S4x256x16 .f32 := Host.absf main_v8
  let main_cst_1 : FVec F S_ .f32 := constant S_ .f32 0x7F800000#32
  let main_v10 : FVec F S4x256x16 .f32 := broadcastInDim S4x256x16 ![] bcast_S_S4x256x16 main_cst_1
  let main_v11 : IVec S4x256x16 1 := cmpf .olt main_v9 main_v10
  let main_v12 : FVec F S4x256x16 .f32 := (extf .f32 · bitsLt_bf16_f32) main_arg3
  let main_v13 : FVec F S4x256x16 .f32 := Host.absf main_v12
  let main_cst_2 : FVec F S_ .f32 := constant S_ .f32 0x7F800000#32
  let main_v14 : FVec F S4x256x16 .f32 := broadcastInDim S4x256x16 ![] bcast_S_S4x256x16 main_cst_2
  let main_v15 : IVec S4x256x16 1 := cmpf .olt main_v13 main_v14
  (main_v3, main_v7, main_v11, main_v15)
-- ==== Pre_finite_ReferenceIdeal.lean ====
abbrev S4x1024x256 : Shape := ⟨3, ![4, 1024, 256]⟩
abbrev S256x16 : Shape := ⟨2, ![256, 16]⟩
abbrev S4x1024x16 : Shape := ⟨3, ![4, 1024, 16]⟩
abbrev S_ : Shape := ⟨0, ![]⟩

class Facts : Prop where
  bitsLt_bf16_f32 : FTy.bits .bf16 < FTy.bits .f32
  bcast_S_S4x1024x256 : S_.BroadcastsInDim S4x1024x256 (![] : Fin 0 → Fin S4x1024x256.rank)
  bcast_S_S256x16 : S_.BroadcastsInDim S256x16 (![] : Fin 0 → Fin S256x16.rank)
  bcast_S_S4x1024x16 : S_.BroadcastsInDim S4x1024x16 (![] : Fin 0 → Fin S4x1024x16.rank)

variable [Facts]

def fn {F : FTy → Type} [FloatOps F] (main_arg0 : FVec F S4x1024x256 .bf16) (main_arg1 : FVec F S256x16 .bf16) (main_arg2 : FVec F S4x1024x16 .bf16) (main_arg3 : FVec F S4x1024x16 .bf16) : IVec S4x1024x256 1 × IVec S256x16 1 × IVec S4x1024x16 1 × IVec S4x1024x16 1 :=
  let main_v0 : FVec F S4x1024x256 .f32 := (extf .f32 · bitsLt_bf16_f32) main_arg0
  let main_v1 : FVec F S4x1024x256 .f32 := Host.absf main_v0
  let main_cst : FVec F S_ .f32 := constant S_ .f32 0x7F800000#32
  let main_v2 : FVec F S4x1024x256 .f32 := broadcastInDim S4x1024x256 ![] bcast_S_S4x1024x256 main_cst
  let main_v3 : IVec S4x1024x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  let main_v8 : FVec F S4x1024x16 .f32 := (extf .f32 · bitsLt_bf16_f32) main_arg2
  let main_v9 : FVec F S4x1024x16 .f32 := Host.absf main_v8
  let main_cst_1 : FVec F S_ .f32 := constant S_ .f32 0x7F800000#32
  let main_v10 : FVec F S4x1024x16 .f32 := broadcastInDim S4x1024x16 ![] bcast_S_S4x1024x16 main_cst_1
  let main_v11 : IVec S4x1024x16 1 := cmpf .olt main_v9 main_v10
  let main_v12 : FVec F S4x1024x16 .f32 := (extf .f32 · bitsLt_bf16_f32) main_arg3
  let main_v13 : FVec F S4x1024x16 .f32 := Host.absf main_v12
  let main_cst_2 : FVec F S_ .f32 := constant S_ .f32 0x7F800000#32
  let main_v14 : FVec F S4x1024x16 .f32 := broadcastInDim S4x1024x16 ![] bcast_S_S4x1024x16 main_cst_2
  let main_v15 : IVec S4x1024x16 1 := cmpf .olt main_v13 main_v14
  (main_v3, main_v7, main_v11, main_v15)
-- ==== Kernel.lean ====
abbrev S4x256x256 : Shape := ⟨3, ![4, 256, 256]⟩
abbrev S256x16 : Shape := ⟨2, ![256, 16]⟩
abbrev S4x256x16 : Shape := ⟨3, ![4, 256, 16]⟩
abbrev S4x16x256 : Shape := ⟨3, ![4, 16, 256]⟩
abbrev S_ : Shape := ⟨0, ![]⟩
abbrev S16x256 : Shape := ⟨2, ![16, 256]⟩
abbrev S1x16x256 : Shape := ⟨3, ![1, 16, 256]⟩
abbrev S1x256x16 : Shape := ⟨3, ![1, 256, 16]⟩
abbrev S4x16x16 : Shape := ⟨3, ![4, 16, 16]⟩
abbrev S4x16x1x16 : Shape := ⟨4, ![4, 16, 1, 16]⟩
abbrev S4x16x16x16 : Shape := ⟨4, ![4, 16, 16, 16]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x256x256, .bf16⟩
  | .hbm, ⟨1, _⟩ => ⟨S256x16, .bf16⟩
  | .hbm, ⟨2, _⟩ => ⟨S4x256x16, .bf16⟩
  | .hbm, ⟨3, _⟩ => ⟨S4x256x16, .bf16⟩
  | .hbm, ⟨4, _⟩ => ⟨S4x256x256, .f32⟩
  | .local _ .vmem, ⟨0, _⟩ => ⟨S4x256x256, .bf16⟩
  | .local _ .vmem, ⟨1, _⟩ => ⟨S256x16, .bf16⟩
  | .local _ .vmem, ⟨2, _⟩ => ⟨S4x256x16, .bf16⟩
  | .local _ .vmem, ⟨3, _⟩ => ⟨S4x256x16, .bf16⟩
  | .local _ .vmem, ⟨4, _⟩ => ⟨S4x256x256, .f32⟩
  | .local _ .vmem, ⟨5, _⟩ => ⟨S4x16x256, .bf16⟩
  | .local _ .vmem, ⟨6, _⟩ => ⟨S4x16x256, .bf16⟩
  | _, _ => ⟨S4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_223 : BitVec 32 := 1#32
  let v2188 : BitVec 32 := Scalar.muli v24 c1_i32_223
  let v2189 : BitVec 32 := Scalar.addi c0_i32_224 v2188
  v2189.toNat
abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x256 : Shape := ⟨3, ![4, 1024, 256]⟩
abbrev S256x16 : Shape := ⟨2, ![256, 16]⟩
abbrev S4x1024x16 : Shape := ⟨3, ![4, 1024, 16]⟩
abbrev S1x256x16 : Shape := ⟨3, ![1, 256, 16]⟩
abbrev S_ : Shape := ⟨0, ![]⟩
abbrev S4x256x16 : Shape := ⟨3, ![4, 256, 16]⟩
abbrev S4x1x256 : Shape := ⟨3, ![4, 1, 256]⟩
abbrev S4x256x1 : Shape := ⟨3, ![4, 256, 1]⟩
abbrev S4x1x16 : Shape := ⟨3, ![4, 1, 16]⟩
abbrev S4x256 : Shape := ⟨2, ![4, 256]⟩

abbrev nBuf : Space → Nat
  | .hbm => 98
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S256x16, .bf16⟩
  | .hbm, ⟨2, _⟩ => ⟨S4x1024x16, .bf16⟩
  | .hbm, ⟨3, _⟩ => ⟨S4x1024x16, .bf16⟩
  | .hbm, ⟨4, _⟩ => ⟨S4x1024x256, .f32⟩
  | .hbm, ⟨5, _⟩ => ⟨S256x16, .f32⟩
  | .hbm, ⟨6, _⟩ => ⟨S4x1024x16, .f32⟩
  | .hbm, ⟨7, _⟩ => ⟨S4x1024x16, .f32⟩
  | .hbm, ⟨8, _⟩ => ⟨S256x16, .f32⟩
  | .hbm, ⟨9, _⟩ => ⟨S1x256x16, .f32⟩
  | .hbm, ⟨10, _⟩ => ⟨S_, .f32⟩
  | .hbm, ⟨11, _⟩ => ⟨S4x256x16, .f32⟩
  | .hbm, ⟨12, _⟩ => ⟨S_, .f32⟩
  | .hbm, ⟨13, _⟩ => ⟨S4x1024x256, .f32⟩
  | .hbm, ⟨14, _⟩ => ⟨S_, .i32⟩
  | .hbm, ⟨15, _⟩ => ⟨S_, .i32⟩
  | .hbm, ⟨16, _⟩ => ⟨S4x1024x256, .f32⟩
  | .hbm, ⟨17, _⟩ => ⟨S4x1024x16, .f32⟩
  | .hbm, ⟨18, _⟩ => ⟨S4x1024x16, .f32⟩
  | .hbm, ⟨19, _⟩ => ⟨S1x256x16, .f32⟩
  | .hbm, ⟨20, _⟩ => ⟨S_, .i32⟩
  | .hbm, ⟨21, _⟩ => ⟨S_, .i32⟩
  | .hbm, ⟨22, _⟩ => ⟨S4x256x16, .f32⟩
  | .hbm, ⟨23, _⟩ => ⟨S4x256x16, .f32⟩
  | .hbm, ⟨24, _⟩ => ⟨S4x1024x256, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S4x256x16, .f32⟩
  | .hbm, ⟨34, _⟩ => ⟨S_, .i32⟩
  | .hbm, ⟨35, _⟩ => ⟨S_, .i1⟩
  | .hbm, ⟨36, _⟩ => ⟨S_, .f32⟩
  | .hbm, ⟨37, _⟩ => ⟨S4x256x16, .f32⟩
  | .hbm, ⟨38, _⟩ => ⟨S4x256x16, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4x1x256, .f32⟩
  | .hbm, ⟨48, _⟩ => ⟨S4x256x1, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S4x1x16, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S4x1x16, .f32⟩
  | .hbm, ⟨67, _⟩ => ⟨S4x256x16, .f32⟩
  | .hbm, ⟨68, _⟩ => ⟨S4x256x16, .f32⟩
  | .hbm, ⟨69, _⟩ => ⟨S4x256x16, .f32⟩
  | .hbm, ⟨70, _⟩ => ⟨S4x256x16, .f32⟩
  | .hbm, ⟨71, _⟩ => ⟨S4x256x16, .f32⟩
  | .hbm, ⟨72, _⟩ => ⟨S4x256x16, .f32⟩
  | .hbm, ⟨73, _⟩ => ⟨S4x256x16, .f32⟩
  | .hbm, ⟨74, _⟩ => ⟨S4x256x16, .f32⟩
  | .hbm, ⟨75, _⟩ => ⟨S4x256x16, .f32⟩
  | .hbm, ⟨76, _⟩ => ⟨S4x256x16, .f32⟩
  | .hbm, ⟨77, _⟩ => ⟨S4x256x16, .f32⟩
  | .hbm, ⟨78, _⟩ => ⟨S4x256x16, .f32⟩
  | .hbm, ⟨79, _⟩ => ⟨S_, .i32⟩
  | .hbm, ⟨80, _⟩ => ⟨S_, .i1⟩
  | .hbm, ⟨81, _⟩ => ⟨S4x256x16, .f32⟩
  | .hbm, ⟨82, _⟩ => ⟨S4x256x16, .f32⟩
  | .hbm, ⟨83, _⟩ => ⟨S4x256x16, .f32⟩
  | .hbm, ⟨84, _⟩ => ⟨S_, .f32⟩
  | .hbm, ⟨85, _⟩ => ⟨S4x256, .f32⟩
  | .hbm, ⟨86, _⟩ => ⟨S4x1x256, .f32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S4x1024x256, .f32⟩
  | .hbm, ⟨96, _⟩ => ⟨S_, .i32⟩
  | .hbm, ⟨97, _⟩ => ⟨S_, .i32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_c_1 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev main_while0c_c_10 : Ref sig .tc := ⟨.hbm, 25, rfl⟩
abbrev main_while0c_v9 : Ref sig .tc := ⟨.hbm, 26, rfl⟩
abbrev main_while0b_c_10 : Ref sig .tc := ⟨.hbm, 27, rfl⟩
abbrev main_while0b_v9 : Ref sig .tc := ⟨.hbm, 28, rfl⟩
abbrev main_while0b_c_11 : Ref sig .tc := ⟨.hbm, 29, rfl⟩
abbrev main_while0b_v10 : Ref sig .tc := ⟨.hbm, 30, rfl⟩
abbrev main_while0b_c_12 : Ref sig .tc := ⟨.hbm, 31, rfl⟩
abbrev main_while0b_v11 : Ref sig .tc := ⟨.hbm, 32, rfl⟩
abbrev main_while0b_v12 : Ref sig .tc := ⟨.hbm, 33, rfl⟩
abbrev main_while0b_c_13 : Ref sig .tc := ⟨.hbm, 34, rfl⟩
abbrev main_while0b_v13 : Ref sig .tc := ⟨.hbm, 35, rfl⟩
abbrev main_while0b_cst_14 : Ref sig .tc := ⟨.hbm, 36, rfl⟩
abbrev main_while0b_v14 : Ref sig .tc := ⟨.hbm, 37, rfl⟩
abbrev main_while0b_v15 : Ref sig .tc := ⟨.hbm, 38, rfl⟩
abbrev main_while0b_c_15 : Ref sig .tc := ⟨.hbm, 39, rfl⟩
abbrev main_while0b_v16 : Ref sig .tc := ⟨.hbm, 40, rfl⟩
abbrev main_while0b_v17 : Ref sig .tc := ⟨.hbm, 41, rfl⟩
abbrev main_while0b_c_16 : Ref sig .tc := ⟨.hbm, 42, rfl⟩
abbrev main_while0b_v18 : Ref sig .tc := ⟨.hbm, 43, rfl⟩
abbrev main_while0b_v19 : Ref sig .tc := ⟨.hbm, 44, rfl⟩
abbrev main_while0b_c_17 : Ref sig .tc := ⟨.hbm, 45, rfl⟩
abbrev main_while0b_c_18 : Ref sig .tc := ⟨.hbm, 46, rfl⟩
abbrev main_while0b_v20 : Ref sig .tc := ⟨.hbm, 47, rfl⟩
abbrev main_while0b_v21 : Ref sig .tc := ⟨.hbm, 48, rfl⟩
abbrev main_while0b_c_19 : Ref sig .tc := ⟨.hbm, 49, rfl⟩
abbrev main_while0b_v22 : Ref sig .tc := ⟨.hbm, 50, rfl⟩
abbrev main_while0b_v23 : Ref sig .tc := ⟨.hbm, 51, rfl⟩
abbrev main_while0b_c_20 : Ref sig .tc := ⟨.hbm, 52, rfl⟩
abbrev main_while0b_v24 : Ref sig .tc := ⟨.hbm, 53, rfl⟩
abbrev main_while0b_v25 : Ref sig .tc := ⟨.hbm, 54, rfl⟩
abbrev main_while0b_c_21 : Ref sig .tc := ⟨.hbm, 55, rfl⟩
abbrev main_while0b_c_22 : Ref sig .tc := ⟨.hbm, 56, rfl⟩
abbrev main_while0b_v26 : Ref sig .tc := ⟨.hbm, 57, rfl⟩
abbrev main_while0b_c_23 : Ref sig .tc := ⟨.hbm, 58, rfl⟩
abbrev main_while0b_v27 : Ref sig .tc := ⟨.hbm, 59, rfl⟩
abbrev main_while0b_v28 : Ref sig .tc := ⟨.hbm, 60, rfl⟩
abbrev main_while0b_c_24 : Ref sig .tc := ⟨.hbm, 61, rfl⟩
abbrev main_while0b_v29 : Ref sig .tc := ⟨.hbm, 62, rfl⟩
abbrev main_while0b_v30 : Ref sig .tc := ⟨.hbm, 63, rfl⟩
abbrev main_while0b_c_25 : Ref sig .tc := ⟨.hbm, 64, rfl⟩
abbrev main_while0b_c_26 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_c_27 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_cst_28 : Ref sig .tc := ⟨.hbm, 84, rfl⟩
abbrev main_while0b_v48 : Ref sig .tc := ⟨.hbm, 85, rfl⟩
abbrev main_while0b_v49 : Ref sig .tc := ⟨.hbm, 86, rfl⟩
abbrev main_while0b_c_29 : Ref sig .tc := ⟨.hbm, 87, rfl⟩
abbrev main_while0b_v50 : Ref sig .tc := ⟨.hbm, 88, rfl⟩
abbrev main_while0b_v51 : Ref sig .tc := ⟨.hbm, 89, rfl⟩
abbrev main_while0b_c_30 : Ref sig .tc := ⟨.hbm, 90, rfl⟩
abbrev main_while0b_v52 : Ref sig .tc := ⟨.hbm, 91, rfl⟩
abbrev main_while0b_v53 : Ref sig .tc := ⟨.hbm, 92, rfl⟩
abbrev main_while0b_c_31 : Ref sig .tc := ⟨.hbm, 93, rfl⟩
abbrev main_while0b_c_32 : Ref sig .tc := ⟨.hbm, 94, rfl⟩
abbrev main_while0b_v54 : Ref sig .tc := ⟨.hbm, 95, rfl⟩
abbrev main_while0b_c_33 : Ref sig .tc := ⟨.hbm, 96, rfl⟩
abbrev main_while0b_v55 : Ref sig .tc := ⟨.hbm, 97, rfl⟩

abbrev nD : Nat := 1
abbrev τ : Topo := Topo.v7x

variable {F : FTy → Type} [FloatOps F]

abbrev main_while0_count : Scf.Loop 32 := ⟨0#32, 1024#32, 1#32⟩
-- ==== Proof.KernelIdeal.Blocks.lean ====
/-
# The kernel as a loop over its sixteen blocks

The kernel is written out position by position. Here it is again as a program over sixteen blocks of sixteen
positions, one definition per block, and the theorem that the two are the same program.
-/
module

public import proofs.«01_k».proof.Proof.Gen.KernelIdeal.Skeleton
public import Idealize.ShloMosaic.Lib.Pipeline.Regions

@[expose] public section

noncomputable section

namespace Cert.KernelIdeal.Blocks

open Cert.KernelIdeal Cert.KernelIdeal.Gen
open Idealize.ShloMosaic Idealize.SL.Sem

variable {F : FTy → Type} [FloatOps F]

/-! ## The values of one block -/

theorem slice_big (j : Fin 16) : S4x256x256.Slices ![0, 16 * j.val, 0] S4x16x256 :=
  ⟨rfl, fun a => by have := j.isLt; fin_cases a <;> simp [S4x256x256, S4x16x256] <;> omega⟩

theorem slice_row (j : Fin 16) : S4x16x256.Slices ![0, j.val, 0] S4x1x256 :=
  ⟨rfl, fun a => by have := j.isLt; fin_cases a <;> simp [S4x16x256, S4x1x256] <;> omega⟩

theorem inb_rows (k : Fin 16) : ∀ a, (![0, 16 * k.val, 0] : Fin 3 → Nat) a + S4x16x256.size a ≤ S4x256x256.size a :=
  fun a => by have := k.isLt; fin_cases a <;> simp [S4x256x256, S4x16x256] <;> omega

theorem inb_B (k : Fin 16) : ∀ a, (![0, 16 * k.val, 0] : Fin 3 → Nat) a + S4x16x16.size a ≤ S4x256x16.size a :=
  fun a => by have := k.isLt; fin_cases a <;> simp [S4x256x16, S4x16x16] <;> omega

/-- Rows `16k … 16k+15` of an array of 256 rows of 256. -/
abbrev rows (k : Fin 16) : Rect S4x256x256 := Rect.unit (s := S4x256x256) ![0, 16 * k.val, 0] S4x16x256.size (inb_rows k)
/-- Rows `16k … 16k+15` of `B`. -/
abbrev rowsB (k : Fin 16) : Rect S4x256x16 := Rect.unit (s := S4x256x16) ![0, 16 * k.val, 0] S4x16x16.size (inb_B k)

/-- The block-diagonal arrangement of `C`: the whole of it, before it is cut into the blocks' rows. -/
def cbdOf (cv : Vec F S4x256x16 .bf16) : FVec F S4x256x256 .bf16 :=
  k0_pay31 (k0_pay25 cv) k0_pay26 (Scalar.select (Scalar.cmpi .eq 16#32 0#32) 1#32 16#32) k0_pay27 k0_pay28 k0_pay29 k0_pay30

/-- The block's rows of `B`, each repeated over the lanes: sixteen slabs of `N` rows. -/
def splat (bv : Vec F S4x16x16 .bf16) : FVec F S4x256x256 .bf16 := k0_pay59 k0_pay32 k0_pay33 bv

/-- The state scaled by the decay. -/
def decay (dA : FVec F S1x16x256 .bf16) (h : FVec F S4x16x256 .bf16) : FVec F S4x16x256 .bf16 :=
  mulf h (broadcastTo S4x16x256 dA broadcasts_S1x16x256_S4x16x256)

/-- One position of the recurrence. -/
def stepH (dA : FVec F S1x16x256 .bf16) (bs : FVec F S4x256x256 .bf16) (xb : FVec F S4x16x256 .bf16) (j : Fin 16)
    (h : FVec F S4x16x256 .bf16) : FVec F S4x16x256 .bf16 :=
  addf (decay dA h)
    (mulf (extractStridedSlice S4x16x256 ![0, 16 * j.val, 0] bs (slice_big j))
      (broadcastTo S4x16x256 (extractStridedSlice S4x1x256 ![0, j.val, 0] xb (slice_row j)) broadcasts_S4x1x256_S4x16x256))

/-- The state after the block's first `n` positions. -/
def stateAt (dA : FVec F S1x16x256 .bf16) (bs : FVec F S4x256x256 .bf16) (xb : FVec F S4x16x256 .bf16)
    (h : FVec F S4x16x256 .bf16) : ℕ → FVec F S4x16x256 .bf16
  | 0 => h
  | n + 1 => stepH dA bs xb (Fin.ofNat 16 n) (stateAt dA bs xb h n)

/-- The state after `n` scalings, for the correction. -/
def decayAt (dA : FVec F S1x16x256 .bf16) (g : FVec F S4x16x256 .bf16) : ℕ → FVec F S4x16x256 .bf16
  | 0 => g
  | n + 1 => decay dA (decayAt dA g n)

/-- Sixteen states stacked, in order. -/
def stack (f : ℕ → FVec F S4x16x256 .bf16) : FVec F S4x256x256 .bf16 :=
  concatenate S4x256x256 1 [⟨S4x16x256, f 1⟩, ⟨S4x16x256, f 2⟩, ⟨S4x16x256, f 3⟩, ⟨S4x16x256, f 4⟩, ⟨S4x16x256, f 5⟩,
    ⟨S4x16x256, f 6⟩, ⟨S4x16x256, f 7⟩, ⟨S4x16x256, f 8⟩, ⟨S4x16x256, f 9⟩, ⟨S4x16x256, f 10⟩, ⟨S4x16x256, f 11⟩,
    ⟨S4x16x256, f 12⟩, ⟨S4x16x256, f 13⟩, ⟨S4x16x256, f 14⟩, ⟨S4x16x256, f 15⟩, ⟨S4x16x256, f 16⟩]
    concatenates_S4x16x256_S4x16x256_S4x16x256_S4x16x256_S4x16x256_S4x16x256_S4x16x256_S4x16x256_S4x16x256_S4x16x256_S4x16x256_S4x16x256_S4x16x256_S4x16x256_S4x16x256_S4x16x256_S4x256x256_d1

/-- Sixteen stacked states contracted with the block's rows of `C`. -/
def readOut (cbd : FVec F S4x256x256 .bf16) (k : Fin 16) (f : ℕ → FVec F S4x16x256 .bf16) : FVec F S4x16x256 .f32 :=
  matmul dot_S4x16x256_S4x256x256_S4x16x256_2_1_1_2_0_0 none
    (extractStridedSlice S4x16x256 ![0, 16 * k.val, 0] cbd (slice_big k)) (stack f) (constant S4x16x256 .f32 0x00000000#32)

/-- The states of block `k`, from the state `h` before it and the block's rows of `x` and `B`. -/
def blockStates (dA : FVec F S1x16x256 .bf16) (xv : Vec F S4x16x256 .bf16) (bv : Vec F S4x16x16 .bf16)
    (h : FVec F S4x16x256 .bf16) : ℕ → FVec F S4x16x256 .bf16 :=
  stateAt dA (splat bv) (shapeCast S4x16x256 xv shapeCasts_S4x16x256_S4x16x256) h

/-! ## The program -/

section Prog

variable (arg0 : Memref sig .tc .vmem S4x256x256 .bf16) (harg0 : arg0.IsWhole) (arg1 : Memref sig .tc .vmem S256x16 .bf16) (harg1 : arg1.IsWhole)
  (arg2 : Memref sig .tc .vmem S4x256x16 .bf16) (harg2 : arg2.IsWhole) (arg3 : Memref sig .tc .vmem S4x256x16 .bf16) (harg3 : arg3.IsWhole)
  (arg4 : Memref sig .tc .vmem S4x256x256 .f32) (harg4 : arg4.IsWhole) (arg5 : Memref sig .tc .vmem S4x16x256 .bf16) (harg5 : arg5.IsWhole)
  (arg6 : Memref sig .tc .vmem S4x16x256 .bf16) (harg6 : arg6.IsWhole) (arg7 : DmaSems sig S_) (arg8 : DmaSems sig S_)

/-- Block `k` from the state `h`: its rows of `x` and `B` read, its rows of the result written, the state after it returned. -/
def block (dA : FVec F S1x16x256 .bf16) (cbd : FVec F S4x256x256 .bf16) (k : Fin 16) (h : FVec F S4x16x256 .bf16) :
    Prog (TpuEff nD τ sig (Elt F) Λ₀ .tc) (FVec F S4x16x256 .bf16) := do
  let xv : Vec F S4x16x256 .bf16 ← Prog.lift (.load arg0 (rows k).toLoadRect (View.loadsAt_vmem h_S4x16x256))
  let bv : Vec F S4x16x16 .bf16 ← Prog.lift (.load arg2 (rowsB k).toLoadRect (View.loadsAt_vmem h_S4x16x16))
  let _ov : Vec F S4x16x256 .f32 ← Prog.lift (.load arg4 (rows k).toLoadRect (View.loadsAt_vmem h_S4x16x256))
  Prog.lift (.store arg4 (rows k) (readOut cbd k (blockStates dA xv bv h)) Finset.univ (View.stores_vmem_bits_univ h_S4x16x256 rfl) (.inl rfl))
  pure (blockStates dA xv bv h 16)

/-- The first `n` blocks, from the zero state. -/
def blocks (dA : FVec F S1x16x256 .bf16) (cbd : FVec F S4x256x256 .bf16) : ℕ → Prog (TpuEff nD τ sig (Elt F) Λ₀ .tc) (FVec F S4x16x256 .bf16)
  | 0 => pure k0_pay34
  | n + 1 => do
    let h ← blocks dA cbd n
    block arg0 arg2 arg4 dA cbd (Fin.ofNat 16 n) h

/-- Block `k` of the correction: its states added, through `C`, into its rows of the result. -/
def fix (cbd : FVec F S4x256x256 .bf16) (k : Fin 16) (f : ℕ → FVec F S4x16x256 .bf16) :
    Prog (TpuEff nD τ sig (Elt F) Λ₀ .tc) PUnit := do
  let ov : Vec F S4x16x256 .f32 ← Prog.lift (.load arg4 (rows k).toLoadRect (View.loadsAt_vmem h_S4x16x256))
  let _ov : Vec F S4x16x256 .f32 ← Prog.lift (.load arg4 (rows k).toLoadRect (View.loadsAt_vmem h_S4x16x256))
  Prog.lift (.store arg4 (rows k) (addf (shapeCast S4x16x256 ov shapeCasts_S4x16x256_S4x16x256) (readOut cbd k f)) Finset.univ
    (View.stores_vmem_bits_univ h_S4x16x256 rfl) (.inl rfl))

/-- The kernel: the handshake, the sixteen blocks, the last state sent to the right, and on every device but the first
    the correction of the first two blocks. -/
def body : Prog (TpuEff nD τ sig (Elt F) Λ₀ .tc) PUnit := do
  let ⟨d0, v2, v24⟩ ← k0_part2_skel (F := F) arg0 harg0 arg1 harg1 arg2 harg2 arg3 harg3 arg4 harg4 arg5 harg5 arg6 harg6 arg7 arg8
  let av : Vec F S256x16 .bf16 ← Prog.lift (.load arg1 (Rect.unit (s := S256x16) ![0, 0] S256x16.size inb_S256x16_S256x16_0_0).toLoadRect (View.loadsAt_vmem h_S256x16))
  let cv : Vec F S4x256x16 .bf16 ← Prog.lift (.load arg3 (Rect.unit (s := S4x256x16) ![0, 0, 0] S4x256x16.size inb_S4x256x16_S4x256x16_0_0_0).toLoadRect (View.loadsAt_vmem h_S4x256x16))
  let h ← blocks arg0 arg2 arg4 (k0_pay24 av) (cbdOf cv) 16
  let _hv : Vec F S4x16x256 .bf16 ← Prog.lift (.load arg5 (Rect.unit (s := S4x16x256) ![0, 0, 0] S4x16x256.size inb_S4x16x256_S4x16x256_0_0_0).toLoadRect (View.loadsAt_vmem h_S4x16x256))
  Prog.lift (.store arg5 (Rect.unit (s := S4x16x256) ![0, 0, 0] S4x16x256.size inb_S4x16x256_S4x16x256_0_0_0) (shapeCast S4x16x256 h shapeCasts_S4x16x256_S4x16x256)
    Finset.univ (View.stores_vmem h_S4x16x256 (harg5.storeExact_slice rfl _ packedbf16_S4x16x256_S4x16x256_0_0_0) (fun _ => rfl)) (.inl rfl))
  Prog.lift (.enqueueDma arg5 (.remote (Dev.tc (⟨k0_dev3 d0, k0_dev3_lt d0⟩ : Dev nD)) arg6 (.dma arg7.sem)) (.dma arg8.sem) harg5.wordExact harg6.wordExact ⟨⟨rfl, Or.inl rfl⟩, trivial⟩)
  Prog.lift (.waitDma2 arg7.sem arg6 arg5 harg6.wordExact harg5.wordExact)
  Prog.lift (.waitDma2 arg8.sem arg5 arg6 harg5.wordExact harg6.wordExact)
  if Scalar.cmpi .ne (Scalar.extui (Scalar.cmpi .ne v2 0#32) : BitVec 32) 0#32 = 1#1 then do
    let g : Vec F S4x16x256 .bf16 ← Prog.lift (.load arg6 (Rect.unit (s := S4x16x256) ![0, 0, 0] S4x16x256.size inb_S4x16x256_S4x16x256_0_0_0).toLoadRect (View.loadsAt_vmem h_S4x16x256))
    fix arg4 (cbdOf cv) 0 (decayAt (k0_pay24 av) g)
    fix arg4 (cbdOf cv) 1 (fun n => decayAt (k0_pay24 av) g (16 + n))
    pure ⟨⟩
  else do
    pure ⟨⟩
  pure ⟨⟩

set_option maxRecDepth 65536 in
theorem body_eq : cc0_body_skel (F := F) arg0 harg0 arg1 harg1 arg2 harg2 arg3 harg3 arg4 harg4 arg5 harg5 arg6 harg6 arg7 arg8
    = body arg0 harg0 arg1 harg1 arg2 harg2 arg3 harg3 arg4 harg4 arg5 harg5 arg6 harg6 arg7 arg8 := by
  chain_rfl

end Prog

end Cert.KernelIdeal.Blocks

end
-- ==== Proof.KernelIdeal.Values.lean ====
/-
# What the kernel's buffers hold

From a device's four input blocks: the state carried into each block of sixteen positions, the last state (sent to the
right), the result of the shard alone, and the result after the correction by the state received from the left.
-/
module

public import proofs.«01_k».proof.Proof.KernelIdeal.Blocks
public import proofs.«01_k».proof.Proof.Gen.KernelIdeal.Launch
public import Idealize.ShloMosaic.Lib.Pipeline.Value
public import Idealize.ShloMosaic.Lib.Pointwise.Index

@[expose] public section

noncomputable section

namespace Cert.KernelIdeal.Ring

open Cert.KernelIdeal Cert.KernelIdeal.Gen Cert.KernelIdeal.Blocks
open Idealize.ShloMosaic Idealize.ShloMosaic.TcCoe Idealize.SL.Sem

variable {F : FTy → Type} [FloatOps F]

/-! ## Functions of the blocks -/

abbrev xM : Memref sig .tc .vmem S4x256x256 .bf16 := Memref.whole cc0_stg0_0
abbrev aM : Memref sig .tc .vmem S256x16 .bf16 := Memref.whole cc0_stg1_0
abbrev bM : Memref sig .tc .vmem S4x256x16 .bf16 := Memref.whole cc0_stg2_0
abbrev cM : Memref sig .tc .vmem S4x256x16 .bf16 := Memref.whole cc0_stg3_0
abbrev oM : Memref sig .tc .vmem S4x256x256 .f32 := Memref.whole cc0_stg4_0
/-- The state sent, -/
abbrev sM : Memref sig .tc .vmem S4x16x256 .bf16 := Memref.whole cc0_scratch0
/-- and the state received. -/
abbrev rM : Memref sig .tc .vmem S4x16x256 .bf16 := Memref.whole cc0_scratch1

section Pure

variable (A : Vec F S256x16 .bf16) (X : Vec F S4x256x256 .bf16) (B : Vec F S4x256x16 .bf16) (C : Vec F S4x256x16 .bf16)

/-- Block `k`'s rows of `x`, and of `B`. -/
def rowsOf (k : Fin 16) : Vec F S4x16x256 .bf16 := (xM : Memref sig .tc .vmem S4x256x256 .bf16).view.readAt (Elt F) (rows k).toLoadRect X
def rowsBOf (k : Fin 16) : Vec F S4x16x16 .bf16 := (bM : Memref sig .tc .vmem S4x256x16 .bf16).view.readAt (Elt F) (rowsB k).toLoadRect B

/-- The state before block `n`. -/
def carried : ℕ → FVec F S4x16x256 .bf16
  | 0 => k0_pay34
  | n + 1 => blockStates (k0_pay24 A) (rowsOf X (Fin.ofNat 16 n)) (rowsBOf B (Fin.ofNat 16 n)) (carried n) 16

/-- The states within block `k`. -/
def states (k : Fin 16) : ℕ → FVec F S4x16x256 .bf16 :=
  blockStates (k0_pay24 A) (rowsOf X k) (rowsBOf B k) (carried A X B k.val)

/-- The shard's last state, as it is sent. -/
def hend : Vec F S4x16x256 .bf16 := shapeCast S4x16x256 (carried A X B 16) shapeCasts_S4x16x256_S4x16x256

/-- The result's buffer, first at `f₀`, after `n` blocks. -/
def written (f₀ : Vec F S4x256x256 .f32) : ℕ → Vec F S4x256x256 .f32
  | 0 => f₀
  | n + 1 => ((oM : Memref sig .tc .vmem S4x256x256 .f32).access (rows (Fin.ofNat 16 n)) : View sig .tc _ _ _).write (Elt F) (written f₀ n)
      (readOut (cbdOf C) (Fin.ofNat 16 n) (states A X B (Fin.ofNat 16 n))) Finset.univ

/-- The result of the shard alone, row by row. -/
def outLocal : Vec F S4x256x256 .f32 := fun j =>
  readOut (cbdOf C) (Fin.ofNat 16 ((j 1).val / 16)) (states A X B (Fin.ofNat 16 ((j 1).val / 16)))
    (ix3 (n0 := 4) (n1 := 16) (n2 := 256) (j 0) ⟨(j 1).val % 16, Nat.mod_lt _ (by decide)⟩ (j 2))

/-- Block `k`'s rows of the result with the readout of the states `f` added. -/
def fixRows (k : Fin 16) (f : ℕ → FVec F S4x16x256 .bf16) (o : Vec F S4x256x256 .f32) : Vec F S4x256x256 .f32 :=
  ((oM : Memref sig .tc .vmem S4x256x256 .f32).access (rows k) : View sig .tc _ _ _).write (Elt F) o
    (addf (shapeCast S4x16x256 ((oM : Memref sig .tc .vmem S4x256x256 .f32).view.readAt (Elt F) (rows k).toLoadRect o) shapeCasts_S4x16x256_S4x16x256)
      (readOut (cbdOf C) k f)) Finset.univ

/-- The result corrected by the state `g` received. -/
def corrected (g : FVec F S4x16x256 .bf16) (o : Vec F S4x256x256 .f32) : Vec F S4x256x256 .f32 :=
  fixRows C 1 (fun n => decayAt (k0_pay24 A) g (16 + n)) (fixRows C 0 (decayAt (k0_pay24 A) g) o)

/-- A write of block `k`'s rows, read at a position: the block's value within the block, the old contents elsewhere. -/
theorem write_rows_apply (k : Fin 16) (f : Vec F S4x256x256 .f32) (w : FVec F S4x16x256 .f32) (j : S4x256x256.Idx) :
    ((oM : Memref sig .tc .vmem S4x256x256 .f32).access (rows k) : View sig .tc _ _ _).write (Elt F) f w Finset.univ j
      = if (j 1).val / 16 = k.val then w (ix3 (n0 := 4) (n1 := 16) (n2 := 256) (j 0) ⟨(j 1).val % 16, Nat.mod_lt _ (by decide)⟩ (j 2)) else f j := by
  refine (congrFun (View.write_whole_slice_unit (Val := Elt F) cc0_stg4_0 ![0, 16 * k.val, 0] S4x16x256.size (inb_rows k) f w) j).trans ?_
  unfold updateSlice
  have h0 := (j 0).isLt
  have h2 := (j 2).isLt
  by_cases hk : (j 1).val / 16 = k.val
  · rw [if_pos hk, dif_pos]
    · congr 1
      funext a
      apply Fin.ext
      fin_cases a
      · show (j 0).val - 0 = (j 0).val; omega
      · show (j 1).val - 16 * k.val = (j 1).val % 16; omega
      · show (j 2).val - 0 = (j 2).val; omega
    · intro a
      fin_cases a
      · show 0 ≤ (j 0).val ∧ (j 0).val < 0 + 4
        exact ⟨Nat.zero_le _, by simpa using h0⟩
      · show 16 * k.val ≤ (j 1).val ∧ (j 1).val < 16 * k.val + 16
        omega
      · show 0 ≤ (j 2).val ∧ (j 2).val < 0 + 256
        exact ⟨Nat.zero_le _, by simpa using h2⟩
  · rw [if_neg hk, dif_neg]
    intro h
    have h1 : 16 * k.val ≤ (j 1).val ∧ (j 1).val < 16 * k.val + 16 := h 1
    exact hk (by omega)

theorem written_succ (f₀ : Vec F S4x256x256 .f32) (n : ℕ) (hn : n < 16) :
    written A X B C f₀ (n + 1) = ((oM : Memref sig .tc .vmem S4x256x256 .f32).access (rows (Fin.ofNat 16 n)) : View sig .tc _ _ _).write (Elt F) (written A X B C f₀ n)
      (readOut (cbdOf C) (Fin.ofNat 16 n) (blockStates (k0_pay24 A) (rowsOf X (Fin.ofNat 16 n)) (rowsBOf B (Fin.ofNat 16 n)) (carried A X B n))) Finset.univ := by
  rw [written]
  unfold states
  rw [show (Fin.ofNat 16 n).val = n from Nat.mod_eq_of_lt hn]

theorem written_apply (f₀ : Vec F S4x256x256 .f32) (n : ℕ) (hn : n ≤ 16) (j : S4x256x256.Idx) :
    written A X B C f₀ n j = if (j 1).val / 16 < n then outLocal A X B C j else f₀ j := by
  induction n with
  | zero => rw [if_neg (Nat.not_lt_zero _)]; rfl
  | succ n ih =>
    have hv : (Fin.ofNat 16 n).val = n := Nat.mod_eq_of_lt hn
    rw [written, write_rows_apply, ih (by omega), hv]
    by_cases h : (j 1).val / 16 = n
    · rw [if_pos h, if_pos (by omega)]
      unfold outLocal
      rw [h]
    · rw [if_neg h]
      by_cases h' : (j 1).val / 16 < n
      · rw [if_pos h', if_pos (by omega)]
      · rw [if_neg h', if_neg (by omega)]

/-- All sixteen blocks written, nothing is left of what the buffer held before. -/
theorem written_all (f₀ : Vec F S4x256x256 .f32) : written A X B C f₀ 16 = outLocal A X B C := by
  funext j
  rw [written_apply A X B C f₀ 16 le_rfl, if_pos]
  have : (j 1).val < 256 := (j 1).isLt
  omega

end Pure

/-! ## A device's blocks -/

variable (m : (ℓ : Loc nD τ sig) → Buf (Elt F) ℓ)

set_option backward.proofsInPublic true in
/-- The device to the right, -/
def nxt (c : Dev nD) : Dev nD := ⟨(c.val + 1) % 4, Nat.mod_lt _ (by decide)⟩
set_option backward.proofsInPublic true in
/-- and the one to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Device `c`'s blocks of `x`, `A`, `B`, `C` as the kernel finds them staged. -/
def xAt (c : Dev nD) : Vec F S4x256x256 .bf16 := (win0_0.blk (0 : Fin 1)).view.read (Elt F) (m ((c : Thread nD τ).loc main_arg0))
def aAt (c : Dev nD) : Vec F S256x16 .bf16 := (win0_1.blk (0 : Fin 1)).view.read (Elt F) (m ((c : Thread nD τ).loc main_arg1))
def bAt (c : Dev nD) : Vec F S4x256x16 .bf16 := (win0_2.blk (0 : Fin 1)).view.read (Elt F) (m ((c : Thread nD τ).loc main_arg2))
def cAt (c : Dev nD) : Vec F S4x256x16 .bf16 := (win0_3.blk (0 : Fin 1)).view.read (Elt F) (m ((c : Thread nD τ).loc main_arg3))

/-- Device `c`'s last state. -/
def endAt (c : Dev nD) : Vec F S4x16x256 .bf16 := hend (aAt m c) (xAt m c) (bAt m c)

/-- Device `c`'s result: of its shard alone on the first device, corrected on the others. -/
def outAt (c : Dev nD) : Vec F S4x256x256 .f32 :=
  if c = 0 then outLocal (aAt m c) (xAt m c) (bAt m c) (cAt m c)
  else corrected (aAt m c) (cAt m c) (endAt m (prv c)) (outLocal (aAt m c) (xAt m c) (bAt m c) (cAt m c))

end Cert.KernelIdeal.Ring

end
-- ==== Proof.KernelIdeal.Protocol.lean ====
/-
# The ring's protocol

Each device meets both neighbours at the runtime's barrier semaphore before it sends. Its signal to the left carries
the buffer in which it will receive; its signal to the right carries nothing. After its wait for two a device so holds
the receive buffer of the device to its right, and the transfer fills that with the device's last state. The receive
semaphore of a device then hands it its own receive buffer at the left neighbour's last state, its send semaphore the
buffer that it sent from.
-/
module

public import proofs.«01_k».proof.Proof.KernelIdeal.Values
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen Cert.KernelIdeal.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state of the ring, beside that of the pipeline. -/
abbrev RingU : Type := URounds (GSem nD τ sig) Bool
abbrev AllU : Type := UR sig nD τ × RingU

local notation "𝕄" => MT nD τ sig Unit (Elt F) ℕ AllU ℕ

abbrev pipeE : Emb (UR sig nD τ) (MT nD τ sig Unit (Elt F) ℕ AllU ℕ) := embL
abbrev ringE : Emb RingU (MT nD τ sig Unit (Elt F) ℕ AllU ℕ) := embR

variable (m : (ℓ : Loc nD τ sig) → Buf (Elt F) ℓ)

/-! ## Neighbours and semaphores -/

/-- The first signal goes to the left, the second to the right, and so does the transfer. -/
theorem to_left (c : Dev nD) : (⟨k0_dev1 c, k0_dev1_lt c⟩ : Dev nD) = prv c := by revert c; decide +kernel
theorem to_right (c : Dev nD) : (⟨k0_dev2 c, k0_dev2_lt c⟩ : Dev nD) = nxt c := by revert c; decide +kernel
theorem sent_right (c : Dev nD) : (⟨k0_dev3 c, k0_dev3_lt c⟩ : Dev nD) = nxt c := by revert c; decide +kernel

/-- One step to the right around the ring. -/
def shift : Dev nD ≃ Dev nD := ⟨nxt, prv, prv_nxt, nxt_prv⟩

abbrev meetS : Sem sig := (SemArray.scalar (sig.barrier 0 rfl) : Sems sig S_).sem
abbrev outS : DmaSems sig S_ := cc0_scratch2
abbrev inS : DmaSems sig S_ := cc0_scratch3

abbrev meet (c : Dev nD) : GSem nD τ sig := ((c : Thread nD τ), .reg meetS)
abbrev outC (c : Dev nD) : GSem nD τ sig := ((c : Thread nD τ), .dma outS.sem)
abbrev inC (c : Dev nD) : GSem nD τ sig := ((c : Thread nD τ), .dma inS.sem)

/-- The two semaphores that the kernel allocates, -/
abbrev ownSem : Fin 2 → SemLoc sig := fun | 0 => .dma outS.sem | 1 => .dma inS.sem
/-- and all three of the protocol. -/
abbrev ringSem : Fin 3 → SemLoc sig := fun | 0 => .reg meetS | 1 => .dma outS.sem | 2 => .dma inS.sem
abbrev cell (p : Dev nD × Fin 3) : GSem nD τ sig := ((p.1 : Thread nD τ), ringSem p.2)

/-- What one transfer credits. -/
abbrev credit : ℕ := (rM : Memref sig .tc .vmem S4x16x256 .bf16).view.dmaCredit
theorem credit_pos : 0 < credit := View.dmaCredit_pos _ (by decide)

theorem out_ne_meet : (SemLoc.dma outS.sem : SemLoc sig) ≠ .reg meetS := fun h => by cases h
theorem in_ne_meet : (SemLoc.dma inS.sem : SemLoc sig) ≠ .reg meetS := fun h => by cases h
theorem out_ne_in : (SemLoc.dma outS.sem : SemLoc sig) ≠ .dma inS.sem := by decide

/-! ## Ownership of the two state buffers -/

/-- The receive buffer of device `c` at contents `f`, -/
def recvBuf (c : Dev nD) (f : Buf (Elt F) ((rM : Memref sig .tc .vmem S4x16x256 .bf16).view.loc (c : Thread nD τ))) : sProp 𝕄 :=
  (rM : Memref sig .tc .vmem S4x16x256 .bf16).view.loc (c : Thread nD τ) ↦[(rM : Memref sig .tc .vmem S4x16x256 .bf16).view.set]{fullShare} f
/-- and its send buffer. -/
def sendBuf (c : Dev nD) (f : Buf (Elt F) ((sM : Memref sig .tc .vmem S4x16x256 .bf16).view.loc (c : Thread nD τ))) : sProp 𝕄 :=
  (sM : Memref sig .tc .vmem S4x16x256 .bf16).view.loc (c : Thread nD τ) ↦[(sM : Memref sig .tc .vmem S4x16x256 .bf16).view.set]{fullShare} f

omit [FloatOps F] in
instance recvBuf_storable (c : Dev nD) (f) : BI.Storable (upEmb : UEmb _ 𝕄) (recvBuf (F := F) c f) := by unfold recvBuf; infer_instance
omit [FloatOps F] in
instance sendBuf_storable (c : Dev nD) (f) : BI.Storable (upEmb : UEmb _ 𝕄) (sendBuf (F := F) c f) := by unfold sendBuf; infer_instance

omit [FloatOps F] in
theorem recvBuf_eq (c : Dev nD) (f : Buf (Elt F) ((c : Thread nD τ).loc cc0_scratch1)) :
    recvBuf c f = (((c : Thread nD τ).loc cc0_scratch1) ↦{fullShare} f : sProp 𝕄) := by
  unfold recvBuf; rw [show (rM : Memref sig .tc .vmem S4x16x256 .bf16).view.set = Finset.univ from View.set_whole _]
omit [FloatOps F] in
theorem sendBuf_eq (c : Dev nD) (f : Buf (Elt F) ((c : Thread nD τ).loc cc0_scratch0)) :
    sendBuf c f = (((c : Thread nD τ).loc cc0_scratch0) ↦{fullShare} f : sProp 𝕄) := by
  unfold sendBuf; rw [show (sM : Memref sig .tc .vmem S4x16x256 .bf16).view.set = Finset.univ from View.set_whole _]

omit [FloatOps F] in
/-- The transfer leaves in the destination what the source holds. -/
theorem moved (fd fs : Vec F S4x16x256 .bf16) :
    (rM : Memref sig .tc .vmem S4x16x256 .bf16).view.write (Elt F) fd ((sM : Memref sig .tc .vmem S4x16x256 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What the right neighbour's signal brings device `c`: that neighbour's receive buffer, and that its receive
    semaphore is in its first round. -/
def meetPay (c : Dev nD) : sProp 𝕄 := iprop((∃ f, recvBuf (nxt c) f) ∗ reached ringE (inC (nxt c)) 0)
/-- What the arrival brings: the receive buffer at the left neighbour's last state. -/
def inPay (c : Dev nD) : sProp 𝕄 := recvBuf c (endAt m (prv c))
/-- What the completed sending brings: the send buffer back. -/
def outPay (c : Dev nD) : sProp 𝕄 := sendBuf c (endAt m c)

abbrev IsMeet (g : GSem nD τ sig) : Prop := g.1.2 = .tc ∧ g.2 = .reg meetS
abbrev IsMove (g : GSem nD τ sig) : Prop := g.1.2 = .tc ∧ (g.2 = .dma outS.sem ∨ g.2 = .dma inS.sem)

/-- One round. A barrier cell has two duties of one unit, `true` paid by the device to the right with its receive buffer,
    `false` by the device to the left with nothing; a transfer's cell one duty, of the transfer's credit. -/
def plan : Rounds.Schedule (GSem nD τ sig) Bool 𝕄 where
  duties g r := if r = 0 ∧ IsMeet g then Finset.univ else if r = 0 ∧ IsMove g then {false} else ∅
  unitless _ := False
  amount g _ _ := if g.2 = .reg meetS then 1 else credit
  payload g _ d :=
    if g.2 = .reg meetS then (if d then meetPay g.1.1 else iprop(emp))
    else if g.2 = .dma inS.sem then inPay m g.1.1
    else if g.2 = .dma outS.sem then outPay m g.1.1
    else iprop(emp)
  amount_pos g _ _ _ := by
    split
    · exact Nat.one_pos
    · exact credit_pos

instance plan_payload_storable (g : GSem nD τ sig) (r : ℕ) (d : Bool) :
    BI.Storable (upEmb : UEmb _ 𝕄) ((plan (F := F) m).payload g r d) := by
  show BI.Storable upEmb (if g.2 = .reg meetS then (if d then meetPay g.1.1 else iprop(emp)) else if g.2 = .dma inS.sem then inPay m g.1.1
    else if g.2 = .dma outS.sem then outPay m g.1.1 else iprop(emp))
  unfold meetPay inPay outPay
  (repeat' split) <;> infer_instance

section Plan
variable (c : Dev nD)

theorem duties_meet : (plan (F := F) m).duties (meet c) 0 = Finset.univ := by dsimp only [plan]; exact if_pos ⟨rfl, rfl, rfl⟩
theorem duties_out : (plan (F := F) m).duties (outC c) 0 = {false} := by
  dsimp only [plan]; rw [if_neg fun h => out_ne_meet h.2.2]; exact if_pos ⟨rfl, rfl, .inl rfl⟩
theorem duties_in : (plan (F := F) m).duties (inC c) 0 = {false} := by
  dsimp only [plan]; rw [if_neg fun h => in_ne_meet h.2.2]; exact if_pos ⟨rfl, rfl, .inr rfl⟩
theorem duties_done (g : GSem nD τ sig) (r : ℕ) (hr : 1 ≤ r) : (plan (F := F) m).duties g r = ∅ := by
  dsimp only [plan]; rw [if_neg fun h => by omega, if_neg fun h => by omega]

theorem amount_meet (d : Bool) : (plan (F := F) m).amount (meet c) 0 d = 1 := by dsimp only [plan]; exact if_pos rfl
theorem amount_out (d : Bool) : (plan (F := F) m).amount (outC c) 0 d = credit := by dsimp only [plan]; exact if_neg out_ne_meet
theorem amount_in (d : Bool) : (plan (F := F) m).amount (inC c) 0 d = credit := by dsimp only [plan]; exact if_neg in_ne_meet

theorem expect_meet : (plan (F := F) m).expect (meet c) 0 = 2 := by
  unfold Schedule.expect Schedule.amountOf
  rw [duties_meet]
  exact (Finset.sum_congr rfl fun d _ => amount_meet m c d).trans (by simp)
theorem expect_out : (plan (F := F) m).expect (outC c) 0 = credit := by
  unfold Schedule.expect Schedule.amountOf; rw [duties_out, Finset.sum_singleton, amount_out]
theorem expect_in : (plan (F := F) m).expect (inC c) 0 = credit := by
  unfold Schedule.expect Schedule.amountOf; rw [duties_in, Finset.sum_singleton, amount_in]

theorem payload_meet_true : (plan (F := F) m).payload (meet c) 0 true = meetPay c := by
  dsimp only [plan]; rw [if_pos rfl, if_pos rfl]
theorem payload_meet_false : (plan (F := F) m).payload (meet c) 0 false = iprop(emp) := by
  dsimp only [plan]; rw [if_pos rfl]; exact if_neg Bool.false_ne_true
theorem payload_out (d : Bool) : (plan (F := F) m).payload (outC c) 0 d = outPay m c := by
  dsimp only [plan]; rw [if_neg out_ne_meet, if_neg out_ne_in, if_pos rfl]
theorem payload_in (d : Bool) : (plan (F := F) m).payload (inC c) 0 d = inPay m c := by
  dsimp only [plan]; rw [if_neg in_ne_meet, if_pos rfl]

/-- What a wait for a whole round brings, cell by cell. -/
theorem round_meet : bigSep ((plan (F := F) m).duties (meet c) 0 \ ∅) (fun d => (plan (F := F) m).payload (meet c) 0 d) = iprop(emp ∗ meetPay c) := by
  rw [Finset.sdiff_empty, duties_meet, bigSep_univ_eq_bigSepL [false, true] (by decide) (by decide), bigSepL_cons_cons, bigSepL_singleton,
    payload_meet_false, payload_meet_true]
  rfl
theorem round_out : bigSep ((plan (F := F) m).duties (outC c) 0 \ ∅) (fun d => (plan (F := F) m).payload (outC c) 0 d) = outPay m c := by
  rw [Finset.sdiff_empty, duties_out, bigSep_singleton, payload_out]
theorem round_in : bigSep ((plan (F := F) m).duties (inC c) 0 \ ∅) (fun d => (plan (F := F) m).payload (inC c) 0 d) = inPay m c := by
  rw [Finset.sdiff_empty, duties_in, bigSep_singleton, payload_in]

end Plan

/-! ## What a device owes, and the order in which it may wait -/

/-- After its signal to the left a device still owes a unit to the right and the transfer's credit, -/
def owedAfter (c : Dev nD) : CellTallies nD τ sig Unit := tallyAt (inC (nxt c)) () credit + tallyAt (meet (nxt c)) () 1
/-- and before it a unit to the left too. -/
def owed (c : Dev nD) : CellTallies nD τ sig Unit := owedAfter c + tallyAt (meet (prv c)) () 1

def levels (g : GSem nD τ sig) : Finset Unit := if g.1.2 = .tc then {()} else ∅
/-- Barrier cells below receive cells, everything else below both. -/
def level (g : GSem nD τ sig) (_ : Unit) : ℕ := if g.2 = .reg meetS then 1 else if g.2 = .dma inS.sem then 2 else 0

theorem levels_other (g : GSem nD τ sig) (h : g.1.2 ≠ .tc) : levels g = ∅ := if_neg h
theorem levels_tc (c : Dev nD) (s : SemLoc sig) : levels ((c : Thread nD τ), s) = {()} := if_pos rfl
theorem level_meet (c : Dev nD) (u : Unit) : level (meet c) u = 1 := if_pos rfl
theorem level_in (c : Dev nD) (u : Unit) : level (inC c) u = 2 := (if_neg in_ne_meet).trans (if_pos rfl)
theorem level_stage (c : Dev nD) (q : DmaSem sig) (hq : SemLoc.dma q ≠ .dma inS.sem) (u : Unit) : level ((c : Thread nD τ), .dma q) u = 0 :=
  (if_neg fun h => by cases h).trans (if_neg hq)

theorem owed_cases {c : Dev nD} {g : GSem nD τ sig} {u : Unit} (h : 0 < owed c g u) :
    g = inC (nxt c) ∨ g = meet (nxt c) ∨ g = meet (prv c) := by
  unfold owed owedAfter at h
  simp only [Pi.add_apply, Finsupp.add_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
/-- The pipeline's own waits are below everything owed. -/
theorem wait_stage (c : Dev nD) (q : DmaSem sig) (hq : SemLoc.dma q ≠ .dma inS.sem) (O : CellTallies nD τ sig Unit) (hO : O = owed c ∨ O = 0) :
    (levAts levels level : sProp 𝕄) ⊢ MayWait (c : Thread nD τ) (.dma q) () O := by
  rcases hO with rfl | rfl
  · refine MayOwe.of_cut (L := levels) (lev := level) 0 (fun p hp => by rw [Finset.mem_singleton.mp hp, levels_tc]; exact Finset.mem_singleton_self _)
      (fun g u hg => by rcases owed_cases hg with rfl | rfl | rfl <;> exact Finset.mem_singleton_self _)
      (fun p hp => by rw [Finset.mem_singleton.mp hp]; exact (level_stage c q hq _).le)
      (fun g u hg => by
        rcases owed_cases hg with rfl | rfl | rfl
        · rw [level_in]; decide
        · rw [level_meet]; decide
        · rw [level_meet]; decide)
  · rw [MayWait_zero]; iintro -; iempintro

omit [FloatOps F] in
/-- At the barrier only the transfer's credit is owed, to a cell above. -/
theorem wait_meet (c : Dev nD) :
    (levAts levels level : sProp 𝕄) ⊢ MayWait (c : Thread nD τ) (.reg meetS) () (tallyAt (inC (nxt c)) () credit) := by
  have hcell : ∀ (g : GSem nD τ sig) (u : Unit), 0 < (tallyAt (inC (nxt c)) () credit : CellTallies nD τ sig Unit) g u → g = inC (nxt c) := fun g u hg => by
    rw [tallyAt_apply] at hg
    by_contra h
    rw [if_neg fun h' => h h'.1] at hg
    exact absurd hg (Nat.lt_irrefl 0)
  exact MayOwe.of_cut (L := levels) (lev := level) 1 (fun p hp => by rw [Finset.mem_singleton.mp hp, levels_tc]; exact Finset.mem_singleton_self _)
    (fun g u hg => by rw [hcell g u hg]; exact Finset.mem_singleton_self _)
    (fun p hp => by rw [Finset.mem_singleton.mp hp]; exact (level_meet c _).le)
    (fun g u hg => by rw [hcell g u hg, level_in]; decide)

/-! ## A device's share of the protocol -/

/-- The knowledge every device has: each cell's invariant, at some name, and that each is in its first round. -/
def records (K : Dev nD × Fin 3 → ℕ) : sProp 𝕄 :=
  iprop((bigSep Finset.univ fun p : Dev nD × Fin 3 => cellInv ringE (plan m) (K p) (cell p))
    ∗ bigSep Finset.univ fun p : Dev nD × Fin 3 => reached ringE (cell p) 0)

instance records_persistent (K : Dev nD × Fin 3 → ℕ) : BI.Persistent (records m K) := by unfold records; infer_instance

theorem records_inv (K : Dev nD × Fin 3 → ℕ) (p : Dev nD × Fin 3) : records m K ⊢ cellInv ringE (plan m) (K p) (cell p) := by
  unfold records
  iintro ⟨H, -⟩
  iapply (show (bigSep Finset.univ fun p : Dev nD × Fin 3 => cellInv ringE (plan m) (K p) (cell p) : sProp 𝕄) ⊢ cellInv ringE (plan m) (K p) (cell p) from
    bigSep_elim (Finset.mem_univ p))
  iexact H
theorem records_reached (K : Dev nD × Fin 3 → ℕ) (p : Dev nD × Fin 3) : records m K ⊢ reached ringE (cell p) 0 := by
  unfold records
  iintro ⟨-, H⟩
  iapply (show (bigSep Finset.univ fun p : Dev nD × Fin 3 => reached ringE (cell p) 0 : sProp 𝕄) ⊢ reached ringE (cell p) 0 from
    bigSep_elim (Finset.mem_univ p))
  iexact H

/-- The duties device `c` pays: to the left, to the right, at the right neighbour's receive cell, at its own send cell. -/
def paying (c : Dev nD) : sProp 𝕄 :=
  iprop(dutyTok ringE (meet (prv c)) 0 true ∗ dutyTok ringE (meet (nxt c)) 0 false ∗ dutyTok ringE (inC (nxt c)) 0 false ∗ dutyTok ringE (outC c) 0 false)
/-- Where it stands at its three cells. -/
def standing (c : Dev nD) : sProp 𝕄 :=
  iprop(atPos ringE (meet c) 0 ∅ 0 ∗ atPos ringE (outC c) 0 ∅ 0 ∗ atPos ringE (inC c) 0 ∅ 0)
def ghost (K : Dev nD × Fin 3 → ℕ) (c : Dev nD) : sProp 𝕄 := iprop(records m K ∗ standing c ∗ paying c)

/-- What the kernel starts from on device `c`: that, the credit of its barrier's two units and of its arrival, and the
    order of the waits. -/
def start (c : Dev nD) : sProp 𝕄 :=
  iprop((∃ K, ghost m K c) ∗ cred (tallyAt (meet c) () 2) ∗ cred (tallyAt (inC c) () credit) ∗ levAts levels level)

/-- Before the kernel: that and the two state buffers. -/
def before (c : Dev nD) : sProp 𝕄 := iprop(start m c ∗ (∃ f, sendBuf c f) ∗ (∃ f, recvBuf c f))
/-- After it: the buffers at the two last states, and the three semaphores at zero again. -/
def after (c : Dev nD) : sProp 𝕄 :=
  iprop(sendBuf c (endAt m c) ∗ recvBuf c (endAt m (prv c)) ∗ semVal (outC c) 0 ∗ semVal (inC c) 0 ∗ semVal (meet c) 0)

def dats (_ : Fin 1) (c : Dev nD) : Dat τ (Elt F) Unit ℕ AllU ℕ cfg0 c where
  A w := m ((cfg0.win w).arr.view.loc (c : Thread nD τ))
  after w _ := match w with
    | ⟨0, _⟩ => xAt m c
    | ⟨1, _⟩ => aAt m c
    | ⟨2, _⟩ => bAt m c
    | ⟨3, _⟩ => cAt m c
    | ⟨4, _⟩ => outAt m c
  Φ t := match t with
    | ⟨0, _⟩ => before m c
    | ⟨_ + 1, _⟩ => after m c
  q _ := fullShare
  owed t := match t with
    | ⟨0, _⟩ => owed c
    | ⟨_ + 1, _⟩ => 0

abbrev vars : Variants := Variants.none

end Cert.KernelIdeal.Ring

end
-- ==== Proof.KernelIdeal.Body.lean ====
/-
# The kernel's body, rule by rule

The sixteen blocks by induction, the two rows of the correction by one lemma, and around them the handshake, the
transfer and its two waits. The body runs from what the launch hands a device to the contents that the pipeline's data
state.
-/
module

public import proofs.«01_k».proof.Proof.KernelIdeal.Protocol
public import proofs.«01_k».proof.Proof.Gen.KernelIdeal.Points

@[expose] public section

noncomputable section

namespace Cert.KernelIdeal.Ring

open Cert.KernelIdeal Cert.KernelIdeal.Gen Cert.KernelIdeal.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ)

/-! ## The blocks -/

section Steps

variable (c : Dev nD) {α : Type}
variable (A : Vec F S256x16 .bf16) (X : Vec F S4x256x256 .bf16) (B : Vec F S4x256x16 .bf16) (C : Vec F S4x256x16 .bf16)

/-- A staging buffer held whole. -/
abbrev held (b : Ref sig .tc) (f : b.ty.Contents (Elt F)) : sProp 𝕄 :=
  (((c : Thread nD τ).loc b) ↦{fullShare} (f : Buf (Elt F) ((c : Thread nD τ).loc b)))

/-- One block reads its rows of `x` and `B`, writes its rows of the result, and returns its last state. -/
theorem wp_block (k : Fin 16) (h : FVec F S4x16x256 .bf16) (o : Vec F S4x256x256 .f32)
    (cont : FVec F S4x16x256 .bf16 → Prog (TpuEff nD τ sig (Elt F) Λ₀ .tc) α) (Q : α → sProp 𝕄) :
    iprop(held c cc0_stg0_0 X ∗ held c cc0_stg2_0 B ∗ held c cc0_stg4_0 o)
      ⊢ iprop(((held c cc0_stg0_0 X ∗ held c cc0_stg2_0 B
            ∗ held c cc0_stg4_0 (((oM : Memref sig .tc .vmem S4x256x256 .f32).access (rows k) : View sig .tc _ _ _).write (Elt F) o
                (readOut (cbdOf C) k (blockStates (k0_pay24 A) (rowsOf X k) (rowsBOf B k) h)) Finset.univ))
          -∗ wp frame (wpE (defs₀ (F := F)) vars (c : Thread nD τ) none) Set.univ (cont (blockStates (k0_pay24 A) (rowsOf X k) (rowsBOf B k) h 16)) Q)
        -∗ wp frame (wpE (defs₀ (F := F)) vars (c : Thread nD τ) none) Set.univ (block xM bM oM (k0_pay24 A) (cbdOf C) k h >>= cont) Q) := by
  unfold block
  simp only [Prog.lift, Prog.bind_op, Prog.bind_ret, Prog.pure_eq_ret]
  iintro ⟨Hx, Hb, Ho⟩ Hk
  iapply (wp_load vars (c : Thread nD τ) none Set.univ (m := xM) (Finset.subset_univ _)) $$ Hx; iintro Hx
  iapply (wp_load vars (c : Thread nD τ) none Set.univ (m := bM) (Finset.subset_univ _)) $$ Hb; iintro Hb
  iapply (wp_load vars (c : Thread nD τ) none Set.univ (m := oM) (Finset.subset_univ _)) $$ Ho; iintro Ho
  iapply (wp_store vars (c : Thread nD τ) none Set.univ (m := oM) (r := rows k) (Mk := Finset.univ) (Finset.subset_univ _)) $$ Ho; iintro Ho
  iapply Hk
  isplitl [Hx]; · iexact Hx
  isplitl [Hb]; · iexact Hb
  iexact Ho

/-- The first `n` blocks, from any contents of the result's buffer. -/
theorem wp_blocks (o : Vec F S4x256x256 .f32) (n : ℕ) (hn : n ≤ 16)
    (cont : FVec F S4x16x256 .bf16 → Prog (TpuEff nD τ sig (Elt F) Λ₀ .tc) α) (Q : α → sProp 𝕄) :
    iprop(held c cc0_stg0_0 X ∗ held c cc0_stg2_0 B ∗ held c cc0_stg4_0 o)
      ⊢ iprop(((held c cc0_stg0_0 X ∗ held c cc0_stg2_0 B ∗ held c cc0_stg4_0 (written A X B C o n))
          -∗ wp frame (wpE (defs₀ (F := F)) vars (c : Thread nD τ) none) Set.univ (cont (carried A X B n)) Q)
        -∗ wp frame (wpE (defs₀ (F := F)) vars (c : Thread nD τ) none) Set.univ (blocks xM bM oM (k0_pay24 A) (cbdOf C) n >>= cont) Q) := by
  induction n generalizing cont with
  | zero =>
    unfold blocks
    simp only [Prog.pure_eq_ret, Prog.bind_ret]
    iintro H Hk
    iapply Hk; iexact H
  | succ n ih =>
    unfold blocks
    rw [Prog.bind_assoc]
    iintro H Hk
    iapply (ih (by omega) (fun h => block xM bM oM (k0_pay24 A) (cbdOf C) (Fin.ofNat 16 n) h >>= cont)) $$ H
    iintro H
    iapply (wp_block c A X B C (Fin.ofNat 16 n) (carried A X B n) (written A X B C o n) cont Q) $$ H
    iintro ⟨Hx, Hb, Ho⟩
    iapply Hk
    isplitl [Hx]; · iexact Hx
    isplitl [Hb]; · iexact Hb
    rw [written_succ A X B C o n hn]
    iexact Ho

/-- One block of the correction. -/
theorem wp_fix (k : Fin 16) (f : ℕ → FVec F S4x16x256 .bf16) (o : Vec F S4x256x256 .f32)
    (cont : PUnit → Prog (TpuEff nD τ sig (Elt F) Λ₀ .tc) α) (Q : α → sProp 𝕄) :
    held c cc0_stg4_0 o
      ⊢ iprop((held c cc0_stg4_0 (fixRows C k f o) -∗ wp frame (wpE (defs₀ (F := F)) vars (c : Thread nD τ) none) Set.univ (cont ⟨⟩) Q)
        -∗ wp frame (wpE (defs₀ (F := F)) vars (c : Thread nD τ) none) Set.univ (fix oM (cbdOf C) k f >>= cont) Q) := by
  unfold fix
  simp only [Prog.lift, Prog.bind_op, Prog.bind_ret, Prog.pure_eq_ret]
  iintro Ho Hk
  iapply (wp_load vars (c : Thread nD τ) none Set.univ (m := oM) (Finset.subset_univ _)) $$ Ho; iintro Ho
  iapply (wp_load vars (c : Thread nD τ) none Set.univ (m := oM) (Finset.subset_univ _)) $$ Ho; iintro Ho
  iapply (wp_store vars (c : Thread nD τ) none Set.univ (m := oM) (r := rows k) (Mk := Finset.univ) (Finset.subset_univ _)) $$ Ho; iintro Ho
  iapply Hk
  iexact Ho

end Steps

/-! ## Reads and writes of whole buffers -/

theorem zeros2 : (![0, 0] : Fin 2 → Nat) = fun _ => 0 := funext fun a => by fin_cases a <;> rfl
theorem zeros3 : (![0, 0, 0] : Fin 3 → Nat) = fun _ => 0 := funext fun a => by fin_cases a <;> rfl

abbrev wholeA : Rect S256x16 := Rect.unit (s := S256x16) ![0, 0] S256x16.size inb_S256x16_S256x16_0_0
abbrev wholeC : Rect S4x256x16 := Rect.unit (s := S4x256x16) ![0, 0, 0] S4x256x16.size inb_S4x256x16_S4x256x16_0_0_0
abbrev wholeH : Rect S4x16x256 := Rect.unit (s := S4x16x256) ![0, 0, 0] S4x16x256.size inb_S4x16x256_S4x16x256_0_0_0

omit [FloatOps F] in
theorem read_A (f : Vec F S256x16 .bf16) : (aM : Memref sig .tc .vmem S256x16 .bf16).view.readAt (Elt F) wholeA.toLoadRect f = f :=
  Memref.readAt_unit_zero (Elt F) cc0_stg1_0 zeros2 _ f
omit [FloatOps F] in
theorem read_C (f : Vec F S4x256x16 .bf16) : (cM : Memref sig .tc .vmem S4x256x16 .bf16).view.readAt (Elt F) wholeC.toLoadRect f = f :=
  Memref.readAt_unit_zero (Elt F) cc0_stg3_0 zeros3 _ f
omit [FloatOps F] in
theorem read_received (f : Vec F S4x16x256 .bf16) : (rM : Memref sig .tc .vmem S4x16x256 .bf16).view.readAt (Elt F) wholeH.toLoadRect f = f :=
  Memref.readAt_unit_zero (Elt F) cc0_scratch1 zeros3 _ f
omit [FloatOps F] in
theorem write_sent (f w : Vec F S4x16x256 .bf16) :
    ((sM : Memref sig .tc .vmem S4x16x256 .bf16).access wholeH : View sig .tc _ _ _).write (Elt F) f w Finset.univ = w :=
  Memref.write_access_unit_zero_univ (Elt F) cc0_scratch0 zeros3 _ f w

/-- The kernel corrects on every device but the first. -/
theorem corrects_iff (c : Dev nD) :
    Scalar.cmpi .ne (Scalar.extui (Scalar.cmpi .ne (Scalar.remsi (Scalar.divsi (Dev.word c) 1#32) 4#32) 0#32) : BitVec 32) 0#32 = 1#1 ↔ c ≠ 0 := by
  revert c; decide +kernel

/-! ## The body -/

section Body

variable (K : Dev nD × Fin 3 → ℕ)

/-- The transfer of device `c`'s last state to device `d`, which is the one to the right. -/
theorem wp_transfer (c d : Dev nD) (hd : d = nxt c) {hsc : (rM : Memref sig (Dev.tc d : Thread nD τ).2.kind .vmem S4x16x256 .bf16).view.ref.isScScratch = false}
    {hsrc : (sM : Memref sig .tc .vmem S4x16x256 .bf16).view.WordExact} {hdst : (rM : Memref sig .tc .vmem S4x16x256 .bf16).view.WordExact}
    {hsem : DmaTarget.Typed .vmem (.dma inS.sem) (.remote (Dev.tc d : Thread nD τ) (rM : Memref sig .tc .vmem S4x16x256 .bf16) (.dma outS.sem) hsc)}
    {α : Type} {Q : α → sProp 𝕄} {k : PUnit → Prog (TpuEff nD τ sig (Elt F) Λ₀ .tc) α}
    (f : Buf (Elt F) ((rM : Memref sig .tc .vmem S4x16x256 .bf16).view.loc (nxt c : Thread nD τ))) (W : Waits sig Unit) :
    iprop(records m K ∗ sendBuf c (endAt m c) ∗ recvBuf (nxt c) f ∗ owes (c : Thread nD τ) (tallyAt (inC (nxt c)) () credit) W
        ∗ dutyTok ringE (outC c) 0 false ∗ dutyTok ringE (inC (nxt c)) 0 false)
      ⊢ iprop(((cred (tallyAt (outC c) () credit) ∗ owes (c : Thread nD τ) 0 W) -∗ wp frame (wpE (defs₀ (F := F)) vars (c : Thread nD τ) none) Set.univ (k ⟨⟩) Q)
          -∗ wp frame (wpE (defs₀ (F := F)) vars (c : Thread nD τ) none) Set.univ
              (.op (.enqueueDma sM (.remote (Dev.tc d : Thread nD τ) rM (.dma outS.sem) hsc) (.dma inS.sem) hsrc hdst hsem) k) Q) := by
  subst hd
  iintro ⟨#HR, Hs, Hr, HO, Ht, Ht'⟩
  unfold sendBuf recvBuf
  iapply (Rounds.wp_send_pointsTo vars ringE (plan m) (c : Thread nD τ) none (κ₁ := K (c, 1)) (κ₂ := K (nxt c, 2))
    (r₁ := 0) (r₂ := 0) (d₁ := false) (d₂ := false) (fd := f)
    (by rw [duties_out]; exact Finset.mem_singleton_self _) (by rw [duties_in]; exact Finset.mem_singleton_self _)
    () () credit rfl (amount_out m c false) (amount_in m (nxt c) false) 0 (by rw [zero_add]) (W := W)
    (by rw [payload_out]; exact BI.Entails.refl _)
    (by rw [payload_in]; unfold inPay recvBuf; rw [moved, prv_nxt]))
  isplitr; · iapply (records_inv m K (c, 1)); iexact HR
  isplitr; · iapply (records_inv m K (nxt c, 2)); iexact HR
  isplitl [Hs]; · iexact Hs
  isplitl [Hr]; · iexact Hr
  isplitl [HO]; · iexact HO
  isplitl [Ht]; · iexact Ht
  isplitr; · iapply (records_reached m K (c, 1)); iexact HR
  isplitl [Ht']; · iexact Ht'
  iapply (records_reached m K (nxt c, 2)); iexact HR

/-- A staging buffer at contents `X`, as the pipeline states it. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(before m c ∗ (dats m 0 c).owesAt () t0_0.castSucc
    ∗ (∃ d, staged c cc0_stg0_0 ((dats m 0 c).before (0 : Fin 5) t0_0 d))
    ∗ (∃ d, staged c cc0_stg1_0 ((dats m 0 c).before (1 : Fin 5) t0_0 d))
    ∗ (∃ d, staged c cc0_stg2_0 ((dats m 0 c).before (2 : Fin 5) t0_0 d))
    ∗ (∃ d, staged c cc0_stg3_0 ((dats m 0 c).before (3 : Fin 5) t0_0 d))
    ∗ (∃ d, staged c cc0_stg4_0 ((dats m 0 c).before (4 : Fin 5) t0_0 d)))

def post (c : Dev nD) : sProp 𝕄 :=
  iprop(after m c ∗ (dats m 0 c).owesAt () t0_0.succ ∗ staged c cc0_stg0_0 (xAt m c) ∗ staged c cc0_stg1_0 (aAt m c)
    ∗ staged c cc0_stg2_0 (bAt m c) ∗ staged c cc0_stg3_0 (cAt m c) ∗ staged c cc0_stg4_0 (outAt m c))

/-- The four inputs are staged when the kernel starts. -/
theorem fetched_x (c : Dev nD) (d) : (dats m 0 c).before (0 : Fin 5) t0_0 d = xAt m c := by unfold Dat.before; rw [if_pos (fetch0_0 t0_0)]; rfl
theorem fetched_a (c : Dev nD) (d) : (dats m 0 c).before (1 : Fin 5) t0_0 d = aAt m c := by unfold Dat.before; rw [if_pos (fetch0_1 t0_0)]; rfl
theorem fetched_b (c : Dev nD) (d) : (dats m 0 c).before (2 : Fin 5) t0_0 d = bAt m c := by unfold Dat.before; rw [if_pos (fetch0_2 t0_0)]; rfl
theorem fetched_c (c : Dev nD) (d) : (dats m 0 c).before (3 : Fin 5) t0_0 d = cAt m c := by unfold Dat.before; rw [if_pos (fetch0_3 t0_0)]; rfl

theorem sent_eq (c : Dev nD) :
    (held c cc0_scratch0 (shapeCast S4x16x256 (carried (aAt m c) (xAt m c) (bAt m c) 16) shapeCasts_S4x16x256_S4x16x256) : sProp 𝕄) = sendBuf c (endAt m c) :=
  (sendBuf_eq c (endAt m c)).symm

/-- The kernel's last statement: nothing on the first device, the two corrected blocks on the others. -/
theorem wp_correct (c : Dev nD) {Q : PUnit → sProp 𝕄} {hl : (rM : Memref sig .tc .vmem S4x16x256 .bf16).view.LoadsAt wholeH.toLoadRect} :
    iprop(recvBuf c (endAt m (prv c)) ∗ held c cc0_stg4_0 (outLocal (aAt m c) (xAt m c) (bAt m c) (cAt m c)))
      ⊢ iprop(((recvBuf c (endAt m (prv c)) ∗ held c cc0_stg4_0 (outAt m c))
            -∗ wp frame (wpE (defs₀ (F := F)) vars (c : Thread nD τ) none) Set.univ (Prog.ret PUnit.unit) Q)
          -∗ wp frame (wpE (defs₀ (F := F)) vars (c : Thread nD τ) none) Set.univ
            (if Scalar.cmpi .ne (Scalar.extui (Scalar.cmpi .ne (Scalar.remsi (Scalar.divsi (Dev.word c) 1#32) 4#32) 0#32) : BitVec 32) 0#32 = 1#1 then
              Prog.op (TpuEff.load rM wholeH.toLoadRect hl) fun g : Vec F S4x16x256 .bf16 =>
                fix oM (cbdOf (cAt m c)) 0 (decayAt (k0_pay24 (aAt m c)) g) >>= fun _ =>
                fix oM (cbdOf (cAt m c)) 1 (fun n => decayAt (k0_pay24 (aAt m c)) g (16 + n)) >>= fun _ => Prog.ret PUnit.unit
             else Prog.ret PUnit.unit) Q) := by
  iintro ⟨Hr, Ho⟩ Hk
  unfold outAt
  by_cases h : c = 0
  · rw [if_neg (fun h' => (corrects_iff c).mp h' h), if_pos h]
    iapply Hk
    isplitl [Hr] <;> iassumption
  · rw [if_pos ((corrects_iff c).mpr h), if_neg h]
    ihave Hr := (Entails.of_eq (recvBuf_eq (F := F) c (endAt m (prv c)))) $$ Hr
    iapply (wp_load vars (c : Thread nD τ) none Set.univ (m := rM) (Finset.subset_univ _)) $$ Hr; iintro Hr
    rw [read_received]
    iapply (wp_fix c (cAt m c) 0 _ _ _ Q) $$ Ho; iintro Ho
    iapply (wp_fix c (cAt m c) 1 _ _ _ Q) $$ Ho; iintro Ho
    iapply Hk
    isplitl [Hr]; · iapply (Entails.of_eq (recvBuf_eq (F := F) c (endAt m (prv c))).symm); iexact Hr
    iexact Ho

attribute [local irreducible] Blocks.blocks Blocks.fix carried written outLocal in
set_option maxHeartbeats 1600000 in
/-- The body from what a device starts with to what it leaves. -/
theorem runs (c : Dev nD) :
    pre m c ⊢ wp frame (wpE (defs₀ (F := F)) vars c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) (fun _ => post m c) := by
  rw [cc0_body_eq_skeleton, body_eq]
  unfold Blocks.body k0_part2_skel
  simp only [semSignalWord, semWaitWord, Prog.lift, Prog.bind_op, Prog.bind_ret, Prog.pure_eq_ret, wp_deviceId]
  unfold pre before start ghost standing paying
  simp only [fetched_x, fetched_a, fetched_b, fetched_c]
  iintro ⟨⟨⟨⟨%K, #HR, ⟨HaM, HaO, HaI⟩, HtL, HtR, HtI, HtO⟩, HcM, HcI, #Hlev⟩, ⟨%s, Hs⟩, ⟨%r, Hr⟩⟩, Ho,
    ⟨%d0, %x, %hx, Hx⟩, ⟨%d1, %a, %ha, Ha⟩, ⟨%d2, %b, %hb, Hb⟩, ⟨%d3, %cc, %hc, Hc⟩, ⟨%d4, %o, %ho, Hout⟩⟩
  subst hx ha hb hc
  unfold Dat.owesAt Pipeline.owesWithin
  icases Ho with ⟨%W, %hW, HO⟩
  rw [show (dats m 0 c).owed t0_0.castSucc = owed c from rfl]
  simp only [to_left c, to_right c]
  -- the signal to the left, with the receive buffer
  iapply (Rounds.wp_signal vars ringE (plan m) (c : Thread nD τ) none (dst := (prv c : Thread nD τ)) (κ := K (prv c, 0))
      (d := true) (by rw [duties_meet]; exact Finset.mem_univ _) ((amount_meet m (prv c) true).trans (by decide)) () (owedAfter c) rfl)
    $$ [HO HtL Hr]
  · isplitr; · iapply (records_inv m K (prv c, 0)); iexact HR
    isplitl [HO]; · iexact HO
    isplitl [HtL]; · iexact HtL
    isplitl [Hr]
    · rw [payload_meet_true]; unfold meetPay; rw [nxt_prv]
      isplitl [Hr]; · iexists r; iexact Hr
      iapply (records_reached m K (c, 2)); iexact HR
    · iapply (records_reached m K (prv c, 0)); iexact HR
  iintro HO
  -- the signal to the right
  unfold owedAfter
  iapply (Rounds.wp_signal vars ringE (plan m) (c : Thread nD τ) none (dst := (nxt c : Thread nD τ)) (κ := K (nxt c, 0))
      (d := false) (by rw [duties_meet]; exact Finset.mem_univ _) ((amount_meet m (nxt c) false).trans (by decide)) () (tallyAt (inC (nxt c)) () credit) rfl)
    $$ [HO HtR]
  · isplitr; · iapply (records_inv m K (nxt c, 0)); iexact HR
    isplitl [HO]; · iexact HO
    isplitl [HtR]; · iexact HtR
    isplitr; · rw [payload_meet_false]; iempintro
    iapply (records_reached m K (nxt c, 0)); iexact HR
  iintro HO
  -- the wait for both neighbours brings the right one's receive buffer
  iapply (Rounds.wp_wait_rest_token vars ringE (plan m) (c : Thread nD τ) none (κ := K (c, 0))
      (wpE_semWait_eq vars (c : Thread nD τ) none Set.univ) (Set.mem_univ _) () (O := tallyAt (inC (nxt c)) () credit) (W := W) (R := 0) (m := 0) (T := ∅)
      (by rw [expect_meet]; decide)) $$ [HcM HO HaM]
  · isplitr; · iapply (records_inv m K (c, 0)); iexact HR
    isplitl [HcM]; · iexact HcM
    isplitl [HO]; · iexact HO
    isplitr; · iapply (wait_meet c); iexact Hlev
    iexact HaM
  iintro ⟨HO, HaM, -, Hpay⟩
  ihave Hp := (Entails.of_eq (round_meet m c)) $$ Hpay
  unfold meetPay
  icases Hp with ⟨-, ⟨%fn, HrN⟩, -⟩
  -- `A` and `C`, and the sixteen blocks
  iapply (wp_load vars (c : Thread nD τ) none Set.univ (m := aM) (Finset.subset_univ _)) $$ Ha; iintro Ha
  iapply (wp_load vars (c : Thread nD τ) none Set.univ (m := cM) (Finset.subset_univ _)) $$ Hc; iintro Hc
  rw [read_A, read_C]
  iapply (wp_blocks c (aAt m c) (xAt m c) (bAt m c) (cAt m c) o 16 le_rfl) $$ [Hx Hb Hout]
  · isplitl [Hx]; · iexact Hx
    isplitl [Hb] <;> iassumption
  iintro ⟨Hx, Hb, Hout⟩
  rw [written_all]
  -- the last state into the send buffer
  ihave Hs := (Entails.of_eq (sendBuf_eq (F := F) c s)) $$ Hs
  iapply (wp_load vars (c : Thread nD τ) none Set.univ (m := sM) (Finset.subset_univ _)) $$ Hs; iintro Hs
  iapply (wp_store vars (c : Thread nD τ) none Set.univ (m := sM) (r := wholeH) (Mk := Finset.univ) (Finset.subset_univ _)) $$ Hs; iintro Hs
  rw [write_sent]
  ihave Hs := (Entails.of_eq (sent_eq m c)) $$ Hs
  -- the transfer to the right
  iapply (wp_transfer m K c _ (sent_right c) fn (insert (SemLoc.reg meetS, ()) W)) $$ [Hs HrN HO HtO HtI]
  · isplitr; · iexact HR
    isplitl [Hs]; · iexact Hs
    isplitl [HrN]; · iexact HrN
    isplitl [HO]; · iexact HO
    isplitl [HtO] <;> iassumption
  iintro ⟨HcO, HO⟩
  -- its completion brings the send buffer back
  iapply (Rounds.wp_wait_rest_token vars ringE (plan m) (c : Thread nD τ) none (κ := K (c, 1))
      (wpE_waitDma2_eq vars (c : Thread nD τ) none Set.univ) (Set.mem_univ _) () (O := 0) (W := insert (SemLoc.reg meetS, ()) W) (R := 0) (m := 0) (T := ∅)
      (by rw [Nat.zero_add, expect_out])) $$ [HcO HO HaO]
  · isplitr; · iapply (records_inv m K (c, 1)); iexact HR
    isplitl [HcO]; · iexact HcO
    isplitl [HO]; · iexact HO
    isplitr; · rw [MayWait_zero]; iempintro
    iexact HaO
  iintro ⟨HO, HaO, -, Hpay⟩
  ihave Hs := (Entails.of_eq (round_out m c)) $$ Hpay
  unfold outPay
  -- the arrival brings the receive buffer at the left neighbour's last state
  iapply (Rounds.wp_wait_rest_token vars ringE (plan m) (c : Thread nD τ) none (κ := K (c, 2))
      (wpE_waitDma2_eq vars (c : Thread nD τ) none Set.univ) (Set.mem_univ _) () (O := 0)
      (W := insert (SemLoc.dma outS.sem, ()) (insert (SemLoc.reg meetS, ()) W)) (R := 0) (m := 0) (T := ∅)
      (by rw [Nat.zero_add, expect_in])) $$ [HcI HO HaI]
  · isplitr; · iapply (records_inv m K (c, 2)); iexact HR
    isplitl [HcI]; · iexact HcI
    isplitl [HO]; · iexact HO
    isplitr; · rw [MayWait_zero]; iempintro
    iexact HaI
  iintro ⟨HO, HaI, -, Hpay⟩
  ihave Hr := (Entails.of_eq (round_in m c)) $$ Hpay
  unfold inPay
  -- the three cells close
  imod (Rounds.cell_close ringE (plan m) (Set.mem_univ (K (c, 1))) (fun h => h) (R := 0 + 1) (duties_done m (outC c))) $$ [HaO] with HzO
  · isplitr; · iapply (records_inv m K (c, 1)); iexact HR
    iexact HaO
  imod (Rounds.cell_close ringE (plan m) (Set.mem_univ (K (c, 2))) (fun h => h) (R := 0 + 1) (duties_done m (inC c))) $$ [HaI] with HzI
  · isplitr; · iapply (records_inv m K (c, 2)); iexact HR
    iexact HaI
  imod (Rounds.cell_close ringE (plan m) (Set.mem_univ (K (c, 0))) (fun h => h) (R := 0 + 1) (duties_done m (meet c))) $$ [HaM] with HzM
  · isplitr; · iapply (records_inv m K (c, 0)); iexact HR
    iexact HaM
  -- the correction, on every device but the first
  iapply (wp_correct m c) $$ [Hr Hout]
  · isplitl [Hr] <;> iassumption
  iintro ⟨Hr, Hout⟩
  rw [wp_ret]; imodintro
  unfold post after Dat.owesAt Pipeline.owesWithin
  rw [show (dats m 0 c).owed t0_0.succ = 0 from rfl]
  isplitl [Hs Hr HzO HzI HzM]
  · isplitl [Hs]; · iexact Hs
    isplitl [Hr]; · iexact Hr
    isplitl [HzO]; · iexact HzO
    isplitl [HzI] <;> iassumption
  isplitl [HO]
  · iexists (insert (SemLoc.dma inS.sem, ()) (insert (SemLoc.dma outS.sem, ()) (insert (SemLoc.reg meetS, ()) W)))
    isplitr; · ipureintro; exact fun _ _ => Or.inl trivial
    iexact HO
  isplitl [Hx]; · iexists _; isplitr; · (ipureintro; rfl)
                  iexact Hx
  isplitl [Ha]; · iexists _; isplitr; · (ipureintro; rfl)
                  iexact Ha
  isplitl [Hb]; · iexists _; isplitr; · (ipureintro; rfl)
                  iexact Hb
  isplitl [Hc]; · iexists _; isplitr; · (ipureintro; rfl)
                  iexact Hc
  iexists _; isplitr; · (ipureintro; rfl)
  iexact Hout

end Body

end Cert.KernelIdeal.Ring

end
-- ==== Proof.KernelIdeal.Launch.lean ====
/-
# The launch

The ghost state of the ring is set up for all devices at once, since the barrier cells are shared: each device's tokens
are minted at its own cells and dealt to the neighbours who pay them. With the body's run this gives the run of the
whole program: it terminates with each device's result as computed, the inputs unchanged and every semaphore at zero.
-/
module

public import proofs.«01_k».proof.Proof.KernelIdeal.Body
public import Idealize.ShloMosaic.Lib.Pipeline.CollectiveSegs

@[expose] public section

noncomputable section

namespace Cert.KernelIdeal.Ring

open Cert.KernelIdeal Cert.KernelIdeal.Gen Cert.KernelIdeal.Blocks
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

omit [FloatOps F] in
theorem owns_staged (c : Dev nD) (b : Ref sig .tc) (X : b.ty.Contents (Elt F)) :
    (owns (Ix := Unit) (Name := ℕ) (U := AllU) (Lvl := ℕ) (c : Thread nD τ) (Memref.whole b) fullShare X : sProp 𝕄) = staged c b X := by
  unfold owns; simp only [Memref.view_whole, View.read_whole, View.set_whole]

set_option maxRecDepth 4000 in
/-- The body, as the pipeline asks for it. -/
theorem obligation (c : Dev nD) : BodyObligation (dats (F := F) m 0 c) (defs₀ (F := F)) vars () Set.univ := fun t => by
  rw [fin_N0 t, bigSep_W0, bigSep_W0]
  simp only [owns_staged]
  exact runs m c

/-! ## Minting the tokens -/

theorem ownSemFacts : Pipeline.OwnSemFacts cfg0.spec ownSem := by decide

theorem ringSem_injective : ∀ k k' : Fin 3, ringSem k = ringSem k' → k = k' := by decide

theorem cell_injective : Function.Injective (cell : Dev nD × Fin 3 → GSem nD τ sig) := fun ⟨c, k⟩ ⟨c', k'⟩ h => by
  have hc : c = c' := congrArg (fun g : GSem nD τ sig => g.1.1) h
  have hk : ringSem k = ringSem k' := congrArg Prod.snd h
  have : k = k' := ringSem_injective k k' hk
  rw [hc, this]
def allCells : Finset (GSem nD τ sig) := Finset.univ.map ⟨cell, cell_injective⟩

/-- The four duties at device `c`'s cells: which cell, and which duty there. -/
abbrev dutyAt : Fin 4 → Fin 3 × Bool := fun | 0 => (0, false) | 1 => (0, true) | 2 => (1, false) | 3 => (2, false)
abbrev tokenAt (p : Dev nD × Fin 4) : GSem nD τ sig × ℕ × Bool := (cell (p.1, (dutyAt p.2).1), 0, (dutyAt p.2).2)
theorem dutyAt_injective : ∀ k k' : Fin 4, (dutyAt k).2 = (dutyAt k').2 → (dutyAt k).1 = (dutyAt k').1 → k = k' := by decide
theorem tokenAt_injective : Function.Injective tokenAt := fun ⟨c, k⟩ ⟨c', k'⟩ h => by
  have hp := cell_injective (congrArg (fun x : GSem nD τ sig × ℕ × Bool => x.1) h)
  have hd : (dutyAt k).2 = (dutyAt k').2 := congrArg (fun x : GSem nD τ sig × ℕ × Bool => x.2.2) h
  have hc : c = c' := congrArg Prod.fst hp
  have hk : (dutyAt k).1 = (dutyAt k').1 := congrArg Prod.snd hp
  have : k = k' := dutyAt_injective k k' hd hk
  rw [hc, this]
def allTokens : Finset (GSem nD τ sig × ℕ × Bool) := Finset.univ.map ⟨tokenAt, tokenAt_injective⟩

/-- The ghost element of the launch: the pipeline's and the ring's. -/
def u₀ : AllU := (initOf (Pipeline.cells cfgs cellOf_inj) (Pipeline.launchToks cfgs cellOf_inj), initOf allCells allTokens)

/-- The duties to be paid at device `c`'s own cells. -/
def owing (c : Dev nD) : sProp 𝕄 :=
  iprop(dutyTok ringE (meet c) 0 false ∗ dutyTok ringE (meet c) 0 true ∗ dutyTok ringE (outC c) 0 false ∗ dutyTok ringE (inC c) 0 false)

/-- What device `c` is dealt: its cells' states, where it stands at them, their first rounds, the duties there. -/
def dealt (c : Dev nD) : sProp 𝕄 :=
  iprop((bigSep Finset.univ fun k : Fin 3 => roundState ringE (plan m) (cell (c, k)) 0)
    ∗ (bigSep Finset.univ fun k : Fin 3 => iprop(atPos ringE (cell (c, k)) 0 ∅ 0 ∗ reached ringE (cell (c, k)) 0)) ∗ owing c)
/-- The same with the cells' states, and their counters, turned into invariants. -/
def opened (c : Dev nD) : sProp 𝕄 :=
  iprop((bigSep Finset.univ fun k : Fin 3 => iprop(∃ κ : ℕ, cellInv ringE (plan m) κ (cell (c, k))))
    ∗ (bigSep Finset.univ fun k : Fin 3 => iprop(atPos ringE (cell (c, k)) 0 ∅ 0 ∗ reached ringE (cell (c, k)) 0)) ∗ owing c)

omit [FloatOps F] in
theorem over3 (Φ : Fin 3 → sProp 𝕄) : bigSep Finset.univ Φ = iprop(Φ 0 ∗ Φ 1 ∗ Φ 2) := bigSep_univ_eq_bigSepL [0, 1, 2] (by decide) (by decide) Φ
omit [FloatOps F] in
theorem over4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem over_cells (Φ : GSem nD τ sig → sProp 𝕄) :
    bigSep allCells Φ = bigSep Finset.univ fun c : Dev nD => bigSep Finset.univ fun k : Fin 3 => Φ (cell (c, k)) := by
  unfold allCells; rw [bigSep_map, bigSep_univ_prod]; rfl
omit [FloatOps F] in
theorem over_tokens : bigSep allTokens (fun x => (dutyTok ringE x.1 x.2.1 x.2.2 : sProp 𝕄)) = bigSep Finset.univ fun c : Dev nD => owing c := by
  unfold allTokens; rw [bigSep_map, bigSep_univ_prod]
  exact bigSep_congr fun c _ => by unfold owing; rw [over4]; rfl

theorem mint : BI.own (ringE (initOf allCells allTokens)) ⊢ (|==> bigSep Finset.univ (dealt m) : sProp 𝕄) := by
  iintro H
  imod (Rounds.fund ringE (plan m) allCells allTokens) $$ H with ⟨Hst, Hr, Hat, Ht⟩
  imodintro
  ihave Hst := (Entails.of_eq (over_cells fun g => roundState ringE (plan m) g 0)) $$ Hst
  ihave Hat := (Entails.of_eq (over_cells (F := F) fun g => atPos ringE g 0 ∅ 0)) $$ Hat
  ihave Hr := (Entails.of_eq (over_cells (F := F) fun g => reached ringE g 0)) $$ Hr
  ihave Ht := (Entails.of_eq (over_tokens (F := F))) $$ Ht
  unfold dealt; simp only [bigSep_sep']
  isplitl [Hst]; · iexact Hst
  isplitl [Hat Hr]
  · isplitl [Hat] <;> iassumption
  iexact Ht

/-! ## Opening the cells, and dealing the tokens around the ring -/

omit [FloatOps F] in
theorem ownSems0_eq (c : Dev nD) : (Pipeline.ownSems0 (Ix := Unit) (Name := ℕ) (U := AllU) (Lvl := ℕ) (Val := Elt F) (τ := τ) ownSem c : sProp 𝕄)
    = iprop(semVal (outC c) 0 ∗ semVal (inC c) 0) := by
  rw [Pipeline.ownSems0_eq_of_list c ownSem [0, 1] (by decide) (by decide)]; rfl
omit [FloatOps F] in
theorem unscopedSems0_eq (c : Dev nD) : (unscopedSems0 c : sProp 𝕄) = semVal (meet c) 0 := by
  unfold unscopedSems0; rw [bigSep_eq_bigSepL_of_eq [SemLoc.reg meetS] (by decide) (by decide)]; rfl

theorem open_cells (c : Dev nD) :
    iprop(Pipeline.ownSems0 (Ix := Unit) (Name := ℕ) (U := AllU) (Lvl := ℕ) (Val := Elt F) (τ := τ) ownSem c ∗ unscopedSems0 c ∗ dealt m c)
      ⊢ |={Set.univ}=> opened m c := by
  unfold dealt opened
  rw [ownSems0_eq, unscopedSems0_eq]
  iintro ⟨⟨HO, HI⟩, HM, Hst, Hat, Ht⟩
  imod (show iprop((bigSep Finset.univ fun k : Fin 3 => semVal (cell (c, k)) 0) ∗ bigSep Finset.univ fun k : Fin 3 => roundState ringE (plan m) (cell (c, k)) 0)
      ⊢ (|={Set.univ}=> bigSep Finset.univ fun k => iprop(∃ κ : ℕ, cellInv ringE (plan m) κ (cell (c, k))) : sProp 𝕄) from by
        rw [← bigSep_sep']
        exact (bigSep_mono fun k _ => (Rounds.body_intro ringE (plan m) (cell (c, k))).trans inv_alloc).trans (bigSep_fupd _ _)) $$ [HO HI HM Hst] with Hinv
  · isplitl [HO HI HM]
    · rw [over3]
      isplitl [HM]; · iexact HM
      isplitl [HO] <;> iassumption
    · iexact Hst
  imodintro
  isplitl [Hinv]; · iexact Hinv
  isplitl [Hat] <;> iassumption

omit [FloatOps F] in
/-- A barrier's token `true` is paid from the right, its token `false` and the arrival's from the left. -/
theorem around : (bigSep Finset.univ fun c : Dev nD => (owing c : sProp 𝕄)) ⊢ bigSep Finset.univ fun c : Dev nD => paying c := by
  unfold owing paying
  rw [bigSep_sep', bigSep_sep', bigSep_sep', bigSep_sep', bigSep_sep', bigSep_sep',
    bigSep_univ_equiv shift (fun c : Dev nD => (dutyTok ringE (meet c) 0 false : sProp 𝕄)),
    bigSep_univ_equiv shift.symm (fun c : Dev nD => (dutyTok ringE (meet c) 0 true : sProp 𝕄)),
    bigSep_univ_equiv shift (fun c : Dev nD => (dutyTok ringE (inC c) 0 false : sProp 𝕄))]
  iintro ⟨H1, H2, H3, H4⟩
  isplitl [H2]; · iexact H2
  isplitl [H1]; · iexact H1
  isplitl [H4]; · iexact H4
  iexact H3

/-- What the launch makes for device `c`. -/
def given (c : Dev nD) : sProp 𝕄 := iprop(∃ K, ghost m K c)

omit [FloatOps F] in
theorem with_knowledge {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem standing_eq (c : Dev nD) : (standing c : sProp 𝕄) = bigSep Finset.univ fun k : Fin 3 => atPos ringE (cell (c, k)) 0 ∅ 0 := by
  unfold standing; rw [over3]

theorem deal : (bigSep Finset.univ fun c : Dev nD => (opened m c : sProp 𝕄)) ⊢ bigSep Finset.univ (given m) := by
  unfold opened
  rw [bigSep_sep', bigSep_sep', ← bigSep_univ_prod (fun p : Dev nD × Fin 3 => iprop(∃ κ : ℕ, cellInv ringE (plan m) κ (cell p))),
    bigSep_congr (s := Finset.univ) (fun (c : Dev nD) _ => bigSep_sep' Finset.univ (fun k : Fin 3 => (atPos ringE (cell (c, k)) 0 ∅ 0 : sProp 𝕄)) (fun k => reached ringE (cell (c, k)) 0)),
    bigSep_sep', ← bigSep_univ_prod (fun p : Dev nD × Fin 3 => (reached ringE (cell p) 0 : sProp 𝕄))]
  iintro ⟨HI, ⟨Hat, #HR⟩, Ht⟩
  ihave HK := (BI.bigSep_exists_pi Finset.univ (fun (p : Dev nD × Fin 3) (κ : ℕ) => (cellInv ringE (plan m) κ (cell p) : sProp 𝕄))) $$ HI
  icases HK with ⟨%K, #HI⟩
  ihave Ht := (around (F := F)) $$ Ht
  iapply (with_knowledge (R := records m K) (Φ := fun c => iprop(standing c ∗ paying c)) (Ψ := given m) fun c => by
    unfold given ghost; iintro H; iexists K; iexact H)
  isplitr
  · unfold records
    isplitl <;> iassumption
  rw [bigSep_sep']
  isplitl [Hat]
  · iapply (show (bigSep Finset.univ fun c : Dev nD => bigSep Finset.univ fun k : Fin 3 => (atPos ringE (cell (c, k)) 0 ∅ 0 : sProp 𝕄))
        ⊢ bigSep Finset.univ fun c : Dev nD => standing c from bigSep_mono fun c _ => Entails.of_eq (standing_eq c).symm)
    iexact Hat
  iexact Ht

theorem setup : (bigSep Finset.univ fun c => iprop(Pipeline.ownSems0 (Ix := Unit) (Name := ℕ) (U := AllU) (Lvl := ℕ) (Val := Elt F) (τ := τ) ownSem c
      ∗ unscopedSems0 c ∗ dealt m c) : sProp 𝕄) ⊢ |={Set.univ}=> bigSep Finset.univ (given m) :=
  ((bigSep_mono fun c _ => open_cells m c).trans (bigSep_fupd _ _)).trans (BI.fupd_mono (deal m))

/-! ## The credit of the launch -/

theorem meet_inj {a b : Dev nD} (h : meet a = meet b) : a = b := congrArg (fun g : GSem nD τ sig => g.1.1) h
theorem in_inj {a b : Dev nD} (h : inC a = inC b) : a = b := congrArg (fun g : GSem nD τ sig => g.1.1) h

/-- A debt to a neighbour's cell, seen from the cell. -/
theorem tally_meet (f g : Dev nD → Dev nD) (hf : ∀ c, f (g c) = c) (hg : ∀ c, g (f c) = c) (d c : Dev nD) :
    (tallyAt (meet (f d)) () 1 : CellTallies nD τ sig Unit) (meet c) () = if d = g c then 1 else 0 := by
  rw [tallyAt_apply]
  by_cases h : d = g c
  · subst h; rw [hf, if_pos ⟨rfl, rfl⟩, if_pos rfl]
  · rw [if_neg (fun h' => h (by rw [← hg d]; exact congrArg g (meet_inj h'.1).symm)), if_neg h]

theorem owed_meet (d c : Dev nD) : owed d (meet c) () = (if d = prv c then 1 else 0) + (if d = nxt c then 1 else 0) := by
  unfold owed owedAfter
  rw [Pi.add_apply, Finsupp.add_apply, Pi.add_apply, Finsupp.add_apply, tallyAt_ne_cell (fun h => in_ne_meet (congrArg Prod.snd h).symm),
    tally_meet nxt prv nxt_prv prv_nxt, tally_meet prv nxt prv_nxt nxt_prv, Finsupp.zero_apply, Nat.zero_add]
theorem owed_in (d c : Dev nD) : owed d (inC c) () = if d = prv c then credit else 0 := by
  unfold owed owedAfter
  rw [Pi.add_apply, Finsupp.add_apply, Pi.add_apply, Finsupp.add_apply, tallyAt_apply,
    tallyAt_ne_cell (fun h => in_ne_meet (congrArg Prod.snd h)), tallyAt_ne_cell (fun h => in_ne_meet (congrArg Prod.snd h)), Finsupp.zero_apply, Nat.add_zero, Nat.add_zero]
  by_cases h : d = prv c
  · subst h; rw [nxt_prv, if_pos ⟨rfl, rfl⟩, if_pos rfl]
  · rw [if_neg (fun h' => h (by rw [← prv_nxt d]; exact congrArg prv (in_inj h'.1).symm)), if_neg h]

theorem credit_meet (c : Dev nD) :
    tallyOn (meet c) (launchCredit (Pipeline.owing owed) 0 (meet c)) = (tallyAt (meet c) () 2 : CellTallies nD τ sig Unit) := by
  unfold tallyAt; refine congrArg _ (Finsupp.ext fun u => ?_); cases u
  rw [Pipeline.launchCredit_owing, Finsupp.single_eq_same, Finset.sum_congr rfl fun d _ => owed_meet d c, Finset.sum_add_distrib,
    Finset.sum_ite_eq' Finset.univ (prv c) fun _ => 1, Finset.sum_ite_eq' Finset.univ (nxt c) fun _ => 1, if_pos (Finset.mem_univ _), if_pos (Finset.mem_univ _)]
theorem credit_in (c : Dev nD) :
    tallyOn (inC c) (launchCredit (Pipeline.owing owed) 0 (inC c)) = (tallyAt (inC c) () credit : CellTallies nD τ sig Unit) := by
  unfold tallyAt; refine congrArg _ (Finsupp.ext fun u => ?_); cases u
  rw [Pipeline.launchCredit_owing, Finsupp.single_eq_same, Finset.sum_congr rfl fun d _ => owed_in d c, Finset.sum_ite_eq' Finset.univ (prv c) fun _ => credit,
    if_pos (Finset.mem_univ _)]

omit [FloatOps F] in
theorem credits (c : Dev nD) : (Pipeline.launchCred owed c : sProp 𝕄) ⊢ iprop(cred (tallyAt (meet c) () 2) ∗ cred (tallyAt (inC c) () credit)) := by
  unfold Pipeline.launchCred
  rw [bigSep_univ_at _ (SemLoc.reg meetS), credit_meet]
  refine sep_mono_right ?_
  rw [← credit_in]
  exact bigSep_elim (Finset.mem_erase.mpr ⟨in_ne_meet, Finset.mem_univ _⟩)

/-! ## Entering and leaving the kernel -/

theorem enter (c : Dev nD) :
    iprop(Pipeline.unscopedRestP Pipeline.Prefetch.none cfg0.spec c (fun b => m ((c : Thread nD τ).loc b)) ∗ levAts levels level
        ∗ Pipeline.launchCred owed c ∗ prngReg c (ρ c) ∗ given m c)
      ⊢ |={Set.univ}=> iprop(start m c ∗ emp) := by
  iintro ⟨-, Hlev, Hcr, -, HG⟩
  ihave Hc := (credits (F := F) c) $$ Hcr
  icases Hc with ⟨H1, HN⟩
  imodintro
  unfold start given
  isplitl
  · isplitl [HG]; · iexact HG
    isplitl [H1]; · iexact H1
    isplitl [HN] <;> iassumption
  · iempintro

theorem enter_scratch (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f, Hf⟩, ⟨%g, Hg⟩⟩
  isplitl [Hs]; · iexact Hs
  isplitl [Hf]
  · iexists f; rw [sendBuf_eq]; iexact Hf
  · iexists g; rw [recvBuf_eq]; iexact Hg

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after m c from rfl, scopedRest0_eq, ownSems0_eq, unscopedSems0_eq]
  unfold after
  iintro ⟨Hs, Hr, HO, HI, HM⟩
  isplitl [HM]; · iexact HM
  isplitl [HO HI]
  · isplitl [HO] <;> iassumption
  isplitl [Hs]
  · iexists (endAt m c); rw [← sendBuf_eq]; iexact Hs
  · iexists (endAt m (prv c)); rw [← recvBuf_eq]; iexact Hr

theorem stage_waits (c : Dev nD) : (levAts levels level : sProp 𝕄) ⊢ Pipeline.cellsWaits cfgs (dats m) () 0 c :=
  Pipeline.cellsWaits_intro cfgs (dats m) () 0 c fun w s t =>
    wait_stage c _ (by fin_cases w <;> fin_cases s <;> decide) _ (by
      rcases t with ⟨_ | _, ht⟩
      · exact Or.inl rfl
      · exact Or.inr rfl)

theorem whole_share (c : Dev nD) (w : Fin cfg0.W) : (dats m 0 c).share w = fullShare := by unfold Dat.share; split <;> rfl

/-! ## The run -/

set_option maxRecDepth 8000 in
/-- From any memory with every semaphore at zero the program terminates on all four devices, with every window's array
    at the contents that the pipeline's data give and every semaphore at zero. -/
theorem run_arrays : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) pipeE defs₀ vars m ρ main
    (hmain := fun _ => rfl)
    (hbody := obligation m) (hne := block_pos0) (harr := arr_whole0) (hstage := stage_whole0) (hshare := whole_share m)
    (hdistinct := winFacts0.arr_inj)
    (O₀ := owed) (howed₀ := fun _ => rfl) (howedN := fun _ => rfl)
    (L := levels) (lv := level) (hL := levels_other) (hwaits := stage_waits m)
    (G := dealt m) (G' := given m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := setup m)
    (hA := fun _ _ => rfl) (hpf := fun _ k => k.elim0)
    (X := start m) (Y := fun c => unscopedSems0 c) (Z := fun _ => iprop(emp))
    (hX := enter m ρ) (hin := enter_scratch m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array holds what the kernel left in its staging buffer. -/
theorem result_array (c : Dev nD) : (dats (F := F) m 0 c).arrAt (4 : Fin 5) cfg0.N = outAt m c := by
  funext y
  have e := (dats (F := F) m 0 c).arrAt_emb_eq_flushed (4 : Fin 5) (fun t t' _ _ h => absurd ((fin_N0 t).trans (fin_N0 t').symm) h) t0_0 (flush0_4 t0_0) y
  have ey : ((cfg0.win 4).blk t0_0).view.emb y = y := by
    funext a; apply Fin.ext
    exact Pipeline.Window.rect_emb_val_of_index_zero win0_4 t0_0 a rfl y
  rw [ey] at e
  exact e

/-- The run, buffer by buffer. -/
theorem run : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 4).trans (result_array m c),
    (h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _)⟩, h.2⟩) (run_arrays m ρ)

end Cert.KernelIdeal.Ring

end
-- ==== Proof.Recurrence.lean ====
/-
# The recurrence of one component

`run d u g n` is the state after `n` positions: each scales the state by `d` and adds `u` of the position; `g` is the
state before them.
-/
module

public import Idealize.ShloMosaic.Lib.Pointwise

@[expose] public section

noncomputable section

namespace Cert.Recurrence

def run (d : EReal) (u : ℕ → EReal) (g : EReal) : ℕ → EReal
  | 0 => g
  | n + 1 => run d u g n * d + u n

/-- Only the positions passed count. -/
theorem run_congr (d : EReal) (u v : ℕ → EReal) (g : EReal) : ∀ n, (∀ t, t < n → u t = v t) → run d u g n = run d v g n
  | 0, _ => rfl
  | n + 1, h => by
    rw [run, run, run_congr d u v g n fun t ht => h t (by omega), h n (by omega)]

/-- `a` positions and then `n` more. -/
theorem run_add (d : EReal) (u : ℕ → EReal) (g : EReal) (a : ℕ) : ∀ n, run d u g (a + n) = run d (fun t => u (a + t)) (run d u g a) n
  | 0 => rfl
  | n + 1 => by
    rw [← Nat.add_assoc, run, run, run_add d u g a n]

/-! ## Real values -/

/-- Neither infinity. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.zero : IsReal 0 := ⟨0, rfl⟩

theorem IsReal.run {d g : EReal} {u : ℕ → EReal} (hd : IsReal d) (hu : ∀ t, IsReal (u t)) (hg : IsReal g) : ∀ n, IsReal (run d u g n)
  | 0 => hg
  | n + 1 => ((IsReal.run hd hu hg n).mul hd).add (hu n)

theorem add_mul_real {x y z : EReal} : IsReal x → IsReal y → IsReal z → (x + y) * z = x * z + y * z
  | ⟨a, ha⟩, ⟨b, hb⟩, ⟨c, hc⟩ => by
    rw [ha, hb, hc]
    norm_cast
    ring

/-- Over real values the state is the one from zero plus what is left of the state before. -/
theorem run_split {d g : EReal} {u : ℕ → EReal} (hd : IsReal d) (hu : ∀ t, IsReal (u t)) (hg : IsReal g) :
    ∀ n, run d u g n = run d u 0 n + run d (fun _ => 0) g n
  | 0 => by simp only [run, zero_add]
  | n + 1 => by
    rw [run, run, run, run_split hd hu hg n,
      add_mul_real (IsReal.run hd hu IsReal.zero n) (IsReal.run hd (fun _ => IsReal.zero) hg n) hd, add_zero, add_right_comm]

end Cert.Recurrence

end
-- ==== Proof.KernelIdeal.Reals.lean ====
/-
# The kernel's values over the reals, at an index

The decay, the spread rows of `B`, the block-diagonal arrangement of `C`, and what a contraction with it is: at a row,
the sum over the sixteen components of that row's state.
-/
module

public import proofs.«01_k».proof.Proof.KernelIdeal.Values
public import proofs.«01_k».proof.Proof.Recurrence
public import Idealize.ShloMosaic.Lib.Pointwise
public import Idealize.ShloMosaic.Lib.Routing.Words

@[expose] public section

noncomputable section

namespace Cert.KernelIdeal.Ring

open Cert.KernelIdeal Cert.KernelIdeal.Gen Cert.KernelIdeal.Blocks
open Idealize.ShloMosaic Idealize.ShloMosaic.Pointwise

theorem decay_apply (A : S256x16.Idx → EReal) (n : Fin 16) (d : Fin 256) :
    (k0_pay24 (F := Ideal) A : S1x16x256.Idx → EReal) (ix3 0 n d) = Ideal.exp (A (ix2 d n)) := by
  pointwise [k0_pay24]

/-! ## The masks -/

theorem rem_word (a : ℕ) (h : a < 256) : IntOp.remsi ArithUnit.vector (BitVec.ofNat 32 a) 16#32 = BitVec.ofNat 32 (a % 16) :=
  Routing.remsi_word .vector (a := a) (b := 16) (by omega) (by omega) (by omega)
theorem div_word (a : ℕ) (h : a < 256) : IntOp.divsi ArithUnit.vector (BitVec.ofNat 32 a) 16#32 = BitVec.ofNat 32 (a / 16) :=
  Routing.divsi_word .vector (a := a) (b := 16) (by omega) (by omega) (by omega)

theorem floor_word : ∀ l : Fin 256, Scalar.select
      (IntOp.andi
        (IntOp.cmpi .ne
          (IntOp.subi (BitVec.setWidth 32 (IntOp.cmpi .sgt (BitVec.ofNat 32 l.val) 0#32))
            (BitVec.setWidth 32 (IntOp.cmpi .slt (BitVec.ofNat 32 l.val) 0#32)))
          (Scalar.subi (Scalar.extui (Scalar.cmpi .sgt 16#32 0#32)) (Scalar.extui (Scalar.cmpi .slt 16#32 0#32))))
        (IntOp.cmpi .ne (BitVec.ofNat 32 (l.val % 16)) 0#32))
      (IntOp.subi (BitVec.ofNat 32 (l.val / 16)) 1#32) (BitVec.ofNat 32 (l.val / 16)) = BitVec.ofNat 32 (l.val / 16) := by
  decide

/-- The lane's position within its block of positions. -/
theorem lane_word (b : Fin 4) (r l : Fin 256) : (k0_pay26 : IVec S4x256x256 32) (ix3 b r l) = BitVec.ofNat 32 (l.val / 16) := by
  pointwise [k0_pay26]
  rw [rem_word l.val l.isLt, div_word l.val l.isLt]
  exact floor_word l

theorem pos_word : (Scalar.select (Scalar.cmpi .eq 16#32 0#32) 1#32 16#32 : BitVec 32) = 16#32 := by decide

theorem row_word (b : Fin 4) (r l : Fin 256) : (k0_pay27 : IVec S4x256x256 32) (ix3 b r l) = BitVec.ofNat 32 (r.val % 16) := by
  pointwise [k0_pay27]
  rw [pos_word]
  exact rem_word r.val r.isLt

theorem mod_word : ∀ r : Fin 16, Scalar.select
      (IntOp.andi (IntOp.xori (IntOp.cmpi .slt (BitVec.ofNat 32 r.val) 0#32) (Scalar.cmpi .slt 16#32 0#32))
        (IntOp.cmpi .ne (BitVec.ofNat 32 r.val) 0#32))
      (IntOp.addi (BitVec.ofNat 32 r.val) 16#32) (BitVec.ofNat 32 r.val) = BitVec.ofNat 32 r.val := by decide

theorem eq_word : ∀ a b : Fin 16, IntOp.cmpi .eq (BitVec.ofNat 32 a.val) (BitVec.ofNat 32 b.val) = if a.val = b.val then 1 else 0 := by decide

/-- The mask that spreads `B`: row `r` keeps component `r mod 16`. -/
theorem diag_word (r : Fin 256) (l : Fin 16) : (k0_pay32 : IVec S1x256x16 1) (ix3 0 r l) = if r.val % 16 = l.val then 1 else 0 := by
  pointwise [k0_pay32]
  rw [pos_word, rem_word r.val r.isLt, mod_word ⟨r.val % 16, Nat.mod_lt _ (by decide)⟩]
  exact eq_word ⟨r.val % 16, Nat.mod_lt _ (by decide)⟩ l

theorem select_ite {α : Type} (p : Prop) [Decidable p] (a b : α) : Scalar.select (if p then (1 : BitVec 1) else 0) a b = if p then a else b := by
  by_cases h : p
  · rw [if_pos h, if_pos h]; rfl
  · rw [if_neg h, if_neg h]; rfl

/-- `B` spread over the lanes: row `16 j + n` holds component `n` of position `j`. -/
theorem splat_apply (B : S4x16x16.Idx → EReal) (b : Fin 4) (d : Fin 256) (l : Fin 256) :
    (splat (F := Ideal) B : S4x256x256.Idx → EReal) (ix3 b l d) = B (ix3 b ⟨l.val / 16, by omega⟩ ⟨l.val % 16, by omega⟩) := by
  pointwise [splat, k0_pay59, k0_pay33]
  simp only [diag_word, select_ite]
  rw [Finset.sum_eq_single (⟨l.val % 16, by omega⟩ : Fin 16)]
  · rw [if_pos rfl]
  · intro x _ hx
    rw [if_neg]
    intro h; exact hx (Fin.ext h.symm)
  · intro h; exact absurd (Finset.mem_univ _) h

/-- The sixteen copies of `C` side by side. -/
theorem tiled_apply (C : S4x256x16.Idx → EReal) (b : Fin 4) (r l : Fin 256) :
    (k0_pay25 (F := Ideal) C : S4x256x256.Idx → EReal) (ix3 b r l) = C (ix3 b r ⟨l.val % 16, by omega⟩) := by
  unfold k0_pay25
  refine (concatenate_ofFn_apply (t := S4x256x256) (s₁ := S4x256x16) 2 (N := 16) (fun _ => shapeCast S4x256x16 C shapeCasts_S4x256x16_S4x256x16) _ rfl 16 rfl
    (ix3 b r l) ⟨l.val / 16, by omega⟩ rfl (ix3 b r ⟨l.val % 16, by omega⟩) rfl ?_).trans ?_
  · intro a ha
    fin_cases a
    · rfl
    · rfl
    · exact absurd rfl ha
  · pointwise

/-- The block-diagonal arrangement of `C`: row `r` holds `C`'s row at the sixteen lanes of its position, zero elsewhere. -/
theorem cbd_apply (C : S4x256x16.Idx → EReal) (b : Fin 4) (r l : Fin 256) :
    (cbdOf (F := Ideal) C : S4x256x256.Idx → EReal) (ix3 b r l) = if l.val / 16 = r.val % 16 then C (ix3 b r ⟨l.val % 16, by omega⟩) else 0 := by
  pointwise [cbdOf, k0_pay31, k0_pay28, k0_pay29, k0_pay30]
  simp only [lane_word, row_word, tiled_apply]
  rw [pos_word, mod_word ⟨r.val % 16, Nat.mod_lt _ (by decide)⟩]
  rw [show IntOp.cmpi .eq (BitVec.ofNat 32 (l.val / 16)) (BitVec.ofNat 32 (r.val % 16)) = _ from
    eq_word ⟨l.val / 16, by omega⟩ ⟨r.val % 16, Nat.mod_lt _ (by decide)⟩, select_ite]

/-- The stack: row `16 i + n` holds component `n` of state `i + 1`. -/
theorem stack_apply (f : ℕ → FVec Ideal S4x16x256 .bf16) (b : Fin 4) (l d : Fin 256) :
    (stack f : S4x256x256.Idx → EReal) (ix3 b l d) = (f (l.val / 16 + 1) : S4x16x256.Idx → EReal) (ix3 b ⟨l.val % 16, by omega⟩ d) := by
  unfold stack
  refine (concatenate_ofFn_apply (t := S4x256x256) (s₁ := S4x16x256) 1 (N := 16) (fun i => f (i.val + 1)) _ rfl 16 rfl
    (ix3 b l d) ⟨l.val / 16, by omega⟩ rfl (ix3 b ⟨l.val % 16, by omega⟩ d) rfl ?_)
  intro a ha
  fin_cases a
  · rfl
  · exact absurd rfl ha
  · rfl

/-- A sum over 256 lanes of which only those of position `i` count. -/
theorem sum_lanes (i : Fin 16) (g : Fin 256 → EReal) (h : ∀ l : Fin 256, l.val / 16 ≠ i.val → g l = 0) :
    ∑ l : Fin 256, g l = ∑ n : Fin 16, g ⟨16 * i.val + n.val, by omega⟩ := by
  symm
  refine Finset.sum_of_injOn (fun n : Fin 16 => (⟨16 * i.val + n.val, by omega⟩ : Fin 256)) ?_ (by simp) ?_ (fun _ _ => rfl)
  · intro a _ b _ hab
    have := congrArg Fin.val hab
    apply Fin.ext
    dsimp only at this
    omega
  · intro l _ hl
    apply h
    intro hc
    apply hl
    refine ⟨⟨l.val % 16, by omega⟩, by simp, Fin.ext ?_⟩
    show 16 * i.val + l.val % 16 = l.val
    omega

/-- The contraction: row `i` of block `k` is the sum over the components of its state. -/
theorem readOut_apply (C : S4x256x16.Idx → EReal) (k : Fin 16) (f : ℕ → FVec Ideal S4x16x256 .bf16) (b : Fin 4) (i : Fin 16) (d : Fin 256) :
    (readOut (F := Ideal) (cbdOf (F := Ideal) C) k f : S4x16x256.Idx → EReal) (ix3 b i d)
      = ∑ n : Fin 16, C (ix3 b ⟨16 * k.val + i.val, by omega⟩ n) * (f (i.val + 1) : S4x16x256.Idx → EReal) (ix3 b n d) := by
  have e : (readOut (F := Ideal) (cbdOf (F := Ideal) C) k f : S4x16x256.Idx → EReal) (ix3 b i d)
      = ∑ l : Fin 256, (cbdOf (F := Ideal) C : S4x256x256.Idx → EReal) (ix3 b ⟨16 * k.val + i.val, by omega⟩ l)
        * (stack f : S4x256x256.Idx → EReal) (ix3 b l d) := by
    pointwise [readOut]
  rw [e, sum_lanes i]
  · refine Finset.sum_congr rfl fun n _ => ?_
    rw [cbd_apply, stack_apply, if_pos (by dsimp only; omega)]
    have h1 : (16 * i.val + n.val) / 16 = i.val := by omega
    have h2 : (16 * i.val + n.val) % 16 = n.val := by omega
    simp only [h1, h2]
  · intro l hl
    rw [cbd_apply, if_neg (by dsimp only; omega), zero_mul]

/-! ## The states -/

open Cert.Recurrence

theorem rowsOf_apply (X : S4x256x256.Idx → EReal) (k : Fin 16) (b : Fin 4) (j : Fin 16) (d : Fin 256) :
    (rowsOf (F := Ideal) X k : S4x16x256.Idx → EReal) (ix3 b j d) = X (ix3 b ⟨16 * k.val + j.val, by omega⟩ d) := by
  refine congrArg X (funext fun a => Fin.ext ?_)
  fin_cases a
  · show 0 + 1 * b.val = b.val; omega
  · show 16 * k.val + 1 * j.val = 16 * k.val + j.val; omega
  · show 0 + 1 * d.val = d.val; omega

theorem rowsBOf_apply (B : S4x256x16.Idx → EReal) (k : Fin 16) (b : Fin 4) (j n : Fin 16) :
    (rowsBOf (F := Ideal) B k : S4x16x16.Idx → EReal) (ix3 b j n) = B (ix3 b ⟨16 * k.val + j.val, by omega⟩ n) := by
  refine congrArg B (funext fun a => Fin.ext ?_)
  fin_cases a
  · show 0 + 1 * b.val = b.val; omega
  · show 16 * k.val + 1 * j.val = 16 * k.val + j.val; omega
  · show 0 + 1 * n.val = n.val; omega

theorem stateAt_apply (dA : S1x16x256.Idx → EReal) (bs : S4x256x256.Idx → EReal) (xb h : S4x16x256.Idx → EReal) (b : Fin 4) (m : Fin 16) (d : Fin 256) :
    ∀ n, (stateAt (F := Ideal) dA bs xb h n : S4x16x256.Idx → EReal) (ix3 b m d)
      = run (dA (ix3 0 m d)) (fun j => bs (ix3 b ⟨16 * (j % 16) + m.val, by omega⟩ d) * xb (ix3 b ⟨j % 16, by omega⟩ d)) (h (ix3 b m d)) n
  | 0 => rfl
  | n + 1 => by
    rw [run, ← stateAt_apply dA bs xb h b m d n]
    pointwise [stateAt, stepH, decay]
    rfl

theorem decayAt_apply (dA : S1x16x256.Idx → EReal) (g : S4x16x256.Idx → EReal) (b : Fin 4) (m : Fin 16) (d : Fin 256) :
    ∀ n, (decayAt (F := Ideal) dA g n : S4x16x256.Idx → EReal) (ix3 b m d) = run (dA (ix3 0 m d)) (fun _ => 0) (g (ix3 b m d)) n
  | 0 => rfl
  | n + 1 => by
    rw [run, add_zero, ← decayAt_apply dA g b m d n]
    pointwise [decayAt, decay]

/-- What a shard's position `t` adds to the state. -/
def inflow (X : S4x256x256.Idx → EReal) (B : S4x256x16.Idx → EReal) (b : Fin 4) (m : Fin 16) (d : Fin 256) (t : ℕ) : EReal :=
  X (ix3 b (Fin.ofNat 256 t) d) * B (ix3 b (Fin.ofNat 256 t) m)

variable (A : S256x16.Idx → EReal) (X : S4x256x256.Idx → EReal) (B C : S4x256x16.Idx → EReal)

theorem block_apply (k : Fin 16) (h : S4x16x256.Idx → EReal) (b : Fin 4) (m : Fin 16) (d : Fin 256) (n : ℕ) (hn : n ≤ 16) :
    (blockStates (F := Ideal) (k0_pay24 (F := Ideal) A) (rowsOf (F := Ideal) X k) (rowsBOf (F := Ideal) B k) h n : S4x16x256.Idx → EReal) (ix3 b m d)
      = run (Ideal.exp (A (ix2 d m))) (fun t => inflow X B b m d (16 * k.val + t)) (h (ix3 b m d)) n := by
  unfold blockStates
  rw [stateAt_apply, decay_apply]
  refine run_congr _ _ _ _ _ fun t ht => ?_
  rw [splat_apply, rowsBOf_apply, show (shapeCast S4x16x256 (rowsOf (F := Ideal) X k) shapeCasts_S4x16x256_S4x16x256 : S4x16x256.Idx → EReal) = rowsOf (F := Ideal) X k from
    shapeCast_id _ _, rowsOf_apply, inflow, mul_comm]
  congr 3
  · apply Fin.ext; show 16 * k.val + t % 16 = (16 * k.val + t) % 256; omega
  · apply Fin.ext; show 16 * k.val + (16 * (t % 16) + m.val) / 16 = (16 * k.val + t) % 256; omega
  · apply Fin.ext; show (16 * (t % 16) + m.val) % 16 = m.val; omega

/-- The state carried into block `n`: the recurrence over the positions before it. -/
theorem carried_apply (b : Fin 4) (m : Fin 16) (d : Fin 256) : ∀ n, n ≤ 16 →
    (carried (F := Ideal) A X B n : S4x16x256.Idx → EReal) (ix3 b m d) = run (Ideal.exp (A (ix2 d m))) (inflow X B b m d) 0 (16 * n)
  | 0, _ => by
    rw [Nat.mul_zero, run]
    pointwise [carried, k0_pay34]
  | n + 1, hn => by
    rw [carried, block_apply A X B _ _ b m d 16 le_rfl, carried_apply b m d n (by omega), Nat.mul_succ, run_add,
      show (Fin.ofNat 16 n).val = n from Nat.mod_eq_of_lt (by omega)]

theorem states_apply (k : Fin 16) (b : Fin 4) (m : Fin 16) (d : Fin 256) (n : ℕ) (hn : n ≤ 16) :
    (states (F := Ideal) A X B k n : S4x16x256.Idx → EReal) (ix3 b m d) = run (Ideal.exp (A (ix2 d m))) (inflow X B b m d) 0 (16 * k.val + n) := by
  unfold states
  rw [block_apply A X B _ _ b m d n hn, carried_apply A X B b m d k.val (by omega), run_add]

/-- The shard's last state. -/
theorem hend_apply (b : Fin 4) (m : Fin 16) (d : Fin 256) :
    (hend (F := Ideal) A X B : S4x16x256.Idx → EReal) (ix3 b m d) = run (Ideal.exp (A (ix2 d m))) (inflow X B b m d) 0 256 := by
  unfold hend
  rw [show (shapeCast S4x16x256 (carried (F := Ideal) A X B 16) shapeCasts_S4x16x256_S4x16x256 : S4x16x256.Idx → EReal) = carried (F := Ideal) A X B 16 from
    shapeCast_id _ _]
  exact carried_apply A X B b m d 16 le_rfl

theorem outLocal_row (b : Fin 4) (r d : Fin 256) :
    (outLocal (F := Ideal) A X B C : S4x256x256.Idx → EReal) (ix3 b r d)
      = (readOut (F := Ideal) (cbdOf (F := Ideal) C) (Fin.ofNat 16 (r.val / 16)) (states (F := Ideal) A X B (Fin.ofNat 16 (r.val / 16))) : S4x16x256.Idx → EReal)
        (ix3 b ⟨r.val % 16, Nat.mod_lt _ (by decide)⟩ d) := rfl

/-- The result of the shard alone: at row `r`, the state after `r + 1` positions read out through `C`. -/
theorem outLocal_apply (b : Fin 4) (r d : Fin 256) :
    (outLocal (F := Ideal) A X B C : S4x256x256.Idx → EReal) (ix3 b r d)
      = ∑ n : Fin 16, C (ix3 b r n) * run (Ideal.exp (A (ix2 d n))) (inflow X B b n d) 0 (r.val + 1) := by
  have hk : (Fin.ofNat 16 (r.val / 16)).val = r.val / 16 := Nat.mod_eq_of_lt (by omega)
  rw [outLocal_row, readOut_apply]
  refine Finset.sum_congr rfl fun n _ => ?_
  rw [states_apply A X B _ b n d _ (by dsimp only; omega)]
  have e : 16 * (Fin.ofNat 16 (r.val / 16)).val + r.val % 16 = r.val := by omega
  congr 1
  · congr 2; exact Fin.ext e
  · congr 1; dsimp only; omega

theorem write_row (k : Fin 16) (f : S4x256x256.Idx → EReal) (w : S4x16x256.Idx → EReal) (b : Fin 4) (r d : Fin 256) :
    (((oM : Memref sig .tc .vmem S4x256x256 .f32).access (rows k) : View sig .tc _ _ _).write (Elt Ideal) f w Finset.univ : S4x256x256.Idx → EReal) (ix3 b r d)
      = if r.val / 16 = k.val then w (ix3 b ⟨r.val % 16, Nat.mod_lt _ (by decide)⟩ d) else f (ix3 b r d) :=
  write_rows_apply (F := Ideal) k f w (ix3 b r d)

theorem fixRows_apply (k : Fin 16) (f : ℕ → FVec Ideal S4x16x256 .bf16) (o : S4x256x256.Idx → EReal) (b : Fin 4) (r d : Fin 256) :
    (fixRows (F := Ideal) C k f o : S4x256x256.Idx → EReal) (ix3 b r d)
      = if r.val / 16 = k.val then o (ix3 b r d) + ∑ n : Fin 16, C (ix3 b r n) * (f (r.val % 16 + 1) : S4x16x256.Idx → EReal) (ix3 b n d)
        else o (ix3 b r d) := by
  unfold fixRows
  rw [write_row]
  by_cases h : r.val / 16 = k.val
  · rw [if_pos h, if_pos h]
    have e : 16 * k.val + r.val % 16 = r.val := by omega
    refine congrArg₂ (· + ·) ?_ ((readOut_apply C k f b ⟨r.val % 16, Nat.mod_lt _ (by decide)⟩ d).trans (Finset.sum_congr rfl fun n _ => ?_))
    · refine (congrFun (shapeCast_id _ _) _).trans (congrArg o (funext fun a => Fin.ext ?_))
      fin_cases a
      · show 0 + 1 * b.val = b.val; omega
      · show 16 * k.val + 1 * (r.val % 16) = r.val; omega
      · show 0 + 1 * d.val = d.val; omega
    · congr 3; exact Fin.ext e
  · rw [if_neg h, if_neg h]

/-- The corrected result: the first 32 rows also read out the state received, scaled by the decay of the positions since. -/
theorem corrected_apply (g o : _) (b : Fin 4) (r d : Fin 256) :
    (corrected (F := Ideal) A C (g : S4x16x256.Idx → EReal) (o : S4x256x256.Idx → EReal) : S4x256x256.Idx → EReal) (ix3 b r d)
      = if r.val < 32 then o (ix3 b r d) + ∑ n : Fin 16, C (ix3 b r n) * run (Ideal.exp (A (ix2 d n))) (fun _ => 0) (g (ix3 b n d)) (r.val + 1)
        else o (ix3 b r d) := by
  unfold corrected
  rw [fixRows_apply, fixRows_apply]
  simp only [decayAt_apply, decay_apply]
  by_cases h1 : r.val / 16 = (1 : Fin 16).val
  · have h1' : r.val / 16 = 1 := h1
    rw [if_pos h1, if_neg (by show ¬ r.val / 16 = 0; omega), if_pos (by omega)]
    rw [show 16 + (r.val % 16 + 1) = r.val + 1 by omega]
  · have h1' : ¬ r.val / 16 = 1 := h1
    rw [if_neg h1]
    by_cases h0 : r.val / 16 = (0 : Fin 16).val
    · have h0' : r.val / 16 = 0 := h0
      rw [if_pos h0, if_pos (by omega)]
      rw [show r.val % 16 + 1 = r.val + 1 by omega]
    · have h0' : ¬ r.val / 16 = 0 := h0
      rw [if_neg h0, if_neg (by omega)]

end Cert.KernelIdeal.Ring

end
-- ==== Proof.Reference.Trips.lean ====
/-
# The reference's loop

The reference is a counted loop over the 1024 positions. One trip of its run is one step of the carried state, so the
result is the state after 1024 steps from the zero state.
-/
module

public import proofs.«01_k».proof.Proof.Gen.ReferenceIdeal
public import proofs.«01_k».proof.Proof.Gen.ReferenceIdeal.Run
public import proofs.«01_k».proof.Proof.Gen.ReferenceIdeal.Step

@[expose] public section

noncomputable section

namespace Cert.ReferenceIdeal.Trips

open Cert.ReferenceIdeal Cert.ReferenceIdeal.Gen Cert.ReferenceIdeal.Value Cert.ReferenceIdeal.Step
open Idealize.ShloMosaic Idealize.ShloMosaic.TcCoe Idealize.ShloMosaic.StableHlo Idealize.SL.Sem

variable {F : FTy → Type} [FloatOps F]

/-- The loop's state, read off the buffers that hold it. -/
def stateOf (V : Valuation τ sig (Elt F)) : State F where
  main_v8_6 := V (Proc.devRef .tc main_v8_6)
  main_v8_7 := V (Proc.devRef .tc main_v8_7)
  main_v8_8 := V (Proc.devRef .tc main_v8_8)
  main_v8_0 := V (Proc.devRef .tc main_v8_0)
  main_v8_1 := V (Proc.devRef .tc main_v8_1)
  main_v8_2 := V (Proc.devRef .tc main_v8_2)
  main_v8_3 := V (Proc.devRef .tc main_v8_3)

/-- The loop's number, in the buffer its trips read. -/
abbrev Numbered (V : Valuation τ sig (Elt F)) (j : ℕ) : Prop :=
  V (Proc.devRef .tc main_v8_5) = constantI S_ 32 (BitVec.ofNat 32 j)

theorem numbered_next (V : Valuation τ sig (Elt F)) (j : ℕ) (h : Numbered V j) : Numbered (STEP V) (j + 1) := by
  refine (STEP_main_v8_5 V).trans ?_
  unfold step_main_v8_5
  rw [h]
  funext i
  show BitVec.ofNat 32 j + 1#32 = BitVec.ofNat 32 (j + 1)
  simp only [BitVec.ofNat_add]

set_option maxRecDepth 8192 in
/-- One trip is one step of the state. -/
theorem stateOf_next (V : Valuation τ sig (Elt F)) (j : ℕ) (h : Numbered V j) : stateOf (STEP V) = step j (stateOf V) := by
  have e6 : Value.step_main_v8_6 V = b45 j (stateOf V) := by
    unfold Value.step_main_v8_6 res_main_while0b_v37 res_main_while0b_v21 res_main_while0b_v26 res_main_while0b_v10; rw [h]; rfl
  have e7 : Value.step_main_v8_7 V = b51 j (stateOf V) := by
    unfold Value.step_main_v8_7 res_main_while0b_v43 res_main_while0b_v21 res_main_while0b_v26 res_main_while0b_v10; rw [h]; rfl
  have e8 : Value.step_main_v8_8 V = b68 j (stateOf V) := by
    unfold Value.step_main_v8_8 res_main_while0b_v43 res_main_while0b_v37 res_main_while0b_v21 res_main_while0b_v26 res_main_while0b_v10; rw [h]; rfl
  unfold stateOf step
  rw [STEP_main_v8_6, STEP_main_v8_7, STEP_main_v8_8, STEP_main_v8_0, STEP_main_v8_1, STEP_main_v8_2, STEP_main_v8_3, e6, e7, e8]
  rfl

variable (m : (ℓ : Loc nD τ sig) → Buf (Elt F) ℓ)

/-- The state after `n` trips, from the arguments. -/
def iter (x : (⟨S4x1024x256, .bf16⟩ : BufTy).Contents (Elt F)) (a : (⟨S256x16, .bf16⟩ : BufTy).Contents (Elt F))
    (b c : (⟨S4x1024x16, .bf16⟩ : BufTy).Contents (Elt F)) : ℕ → State F
  | 0 => init x a b c
  | n + 1 => step n (iter x a b c n)

/-- The arguments of the run at the one device. -/
abbrev iterAt (c : Dev nD) : ℕ → State F :=
  iter (m ((c.tc : Thread nD τ).loc main_arg0)) (m ((c.tc : Thread nD τ).loc main_arg1)) (m ((c.tc : Thread nD τ).loc main_arg2)) (m ((c.tc : Thread nD τ).loc main_arg3))

set_option maxRecDepth 65536 in
set_option maxHeartbeats 400000 in
theorem entry (c : Dev nD) : stateOf (entryContents preI m c) = iterAt m c 0 ∧ Numbered (entryContents preI m c) 0 := by
  constructor
  · unfold stateOf iterAt iter init
    congr 1 <;> (simp only [entryContents, afterL_cons, afterL_nil]; after_reads_simp) <;> rfl
  · unfold Numbered
    simp only [entryContents, afterL_cons, afterL_nil]; after_reads_simp
    rfl

theorem iterates (c : Dev nD) : ∀ k, stateOf (STEP^[k] (entryContents preI m c)) = iterAt m c k ∧ Numbered (STEP^[k] (entryContents preI m c)) k
  | 0 => entry m c
  | k + 1 => by
    rw [Function.iterate_succ_apply']
    refine ⟨(stateOf_next _ k (iterates c k).2).trans ?_, numbered_next _ k (iterates c k).2⟩
    rw [(iterates c k).1]; rfl

theorem result_of (V : Valuation τ sig (Elt F)) (s : State F) (h : stateOf V = s) : V (Proc.devRef .tc main_v8_8) = s.main_v8_8 := by
  subst h; rfl

theorem result_at (c : Dev nD) (k : ℕ) : (STEP^[k] (entryContents preI m c)) (Proc.devRef .tc main_v8_8) = (iterAt m c k).main_v8_8 :=
  result_of _ _ (iterates m c k).1

/-- The run: the result is the state's array of results after 1024 steps, the arguments are unchanged. -/
theorem run (ρ : Dev nD → PrngReg) : θ_run (defs (F := F)) (onTc (τ := τ) (main (F := F))) ⟨m, fun _ => 0, ρ⟩ fun r => ∀ c : Dev nD,
      r.2.mem ((c.tc : Thread nD τ).loc main_v8_8) = (iterAt m c 1024).main_v8_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_at m c 1024), (h c).2⟩) (Value.run m ρ)

end Cert.ReferenceIdeal.Trips

end
-- ==== Proof.Reference.Values.lean ====
/-
# One trip of the reference, at an index

Over the reals: the two carried states and the array of results after a trip, element by element.
-/
module

public import proofs.«01_k».proof.Proof.Reference.Trips
public import Idealize.ShloMosaic.Lib.Pointwise
public import Idealize.ShloMosaic.Lib.DynamicIndex
public import Idealize.ShloMosaic.Lib.Routing.Words

@[expose] public section

noncomputable section

namespace Cert.ReferenceIdeal.Trips

open Cert.ReferenceIdeal Cert.ReferenceIdeal.Gen Cert.ReferenceIdeal.Step
open Idealize.ShloMosaic Idealize.ShloMosaic.Pointwise

variable (j : ℕ) (hj : j < 1024) (s : State Ideal)

/-! ## The fields of the state, as arrays of extended reals -/

abbrev hS : S4x256x16.Idx → EReal := s.main_v8_6
abbrev wS : S4x256x16.Idx → EReal := s.main_v8_7
abbrev yS : S4x1024x256.Idx → EReal := s.main_v8_8
abbrev xS : S4x1024x256.Idx → EReal := s.main_v8_0
abbrev bS : S4x1024x16.Idx → EReal := s.main_v8_1
abbrev cS : S4x1024x16.Idx → EReal := s.main_v8_2
abbrev dS : S1x256x16.Idx → EReal := s.main_v8_3

/-! ## The words -/

include hj in
theorem toInt_index {d : IVec S_ 32} {i : S_.Idx} :
    BitVec.toInt (select (cmpi .slt (constantI S_ 32 (BitVec.ofNat 32 j)) (constantI S_ 32 0#32))
      (addi (constantI S_ 32 (BitVec.ofNat 32 j)) d) (constantI S_ 32 (BitVec.ofNat 32 j)) i) = (j : Int) :=
  toInt_wrap_ofNat j (by omega)

include hj in
/-- The row within its shard. -/
theorem row_word (i : S_.Idx) : (b3 j s : IVec S_ 32) i = BitVec.ofNat 32 (j % 256) :=
  Routing.remsi_word .host (a := j) (b := 256) (by omega) (by omega) (by omega)

theorem row_zero : ∀ r : Fin 256, IntOp.cmpi .eq (BitVec.ofNat 32 r.val) 0#32 = if r.val = 0 then 1 else 0 := by decide
theorem row_early : ∀ r : Fin 256, IntOp.cmpi .slt (BitVec.ofNat 32 r.val) 32#32 = if r.val < 32 then 1 else 0 := by decide

theorem select_zero {α : Type} (r : ℕ) (hr : r < 256) (a b : α) :
    Scalar.select (IntOp.cmpi .eq (BitVec.ofNat 32 r) 0#32) a b = if r = 0 then a else b := by
  rw [row_zero ⟨r, hr⟩]; dsimp only
  by_cases h : r = 0
  · rw [if_pos h, if_pos h]; rfl
  · rw [if_neg h, if_neg h]; rfl
theorem select_early {α : Type} (r : ℕ) (hr : r < 256) (a b : α) :
    Scalar.select (IntOp.cmpi .slt (BitVec.ofNat 32 r) 32#32) a b = if r < 32 then a else b := by
  rw [row_early ⟨r, hr⟩]; dsimp only
  by_cases h : r < 32
  · rw [if_pos h, if_pos h]; rfl
  · rw [if_neg h, if_neg h]; rfl

/-! ## The rows read -/

theorem slice_x (b : Fin 4) (d : Fin 256) : (b20 j s : FVec Ideal S4x1x256 .f32) (ix3 b 0 d) = xS s (ix3 b ⟨j, hj⟩ d) := by
  unfold b20
  refine (congrFun (Host.dynamicSlice_eq_extractStridedSlice S4x1x256 (α := EReal) (s := S4x1024x256) _ _ ![0, j, 0] _
    ⟨rfl, fun a => by fin_cases a <;> simp [S4x1024x256, S4x1x256] <;> omega⟩ ?_) _).trans ?_
  · intro a; fin_cases a
    · rfl
    · exact toInt_index j hj
    · rfl
  · pointwise

theorem slice_b (b : Fin 4) (n : Fin 16) : (b30 j s : FVec Ideal S4x1x16 .f32) (ix3 b 0 n) = bS s (ix3 b ⟨j, hj⟩ n) := by
  unfold b30
  refine (congrFun (Host.dynamicSlice_eq_extractStridedSlice S4x1x16 (α := EReal) (s := S4x1024x16) _ _ ![0, j, 0] _
    ⟨rfl, fun a => by fin_cases a <;> simp [S4x1024x16, S4x1x16] <;> omega⟩ ?_) _).trans ?_
  · intro a; fin_cases a
    · rfl
    · exact toInt_index j hj
    · rfl
  · pointwise

theorem slice_c (b : Fin 4) (n : Fin 16) : (b39 j s : FVec Ideal S4x1x16 .f32) (ix3 b 0 n) = cS s (ix3 b ⟨j, hj⟩ n) := by
  unfold b39
  refine (congrFun (Host.dynamicSlice_eq_extractStridedSlice S4x1x16 (α := EReal) (s := S4x1024x16) _ _ ![0, j, 0] _
    ⟨rfl, fun a => by fin_cases a <;> simp [S4x1024x16, S4x1x16] <;> omega⟩ ?_) _).trans ?_
  · intro a; fin_cases a
    · rfl
    · exact toInt_index j hj
    · rfl
  · pointwise

/-! ## The trip -/

/-- The state since the shard's start. -/
theorem step_h (b : Fin 4) (d : Fin 256) (n : Fin 16) : hS (step j s) (ix3 b d n)
    = (if j % 256 = 0 then 0 else hS s (ix3 b d n)) * dS s (ix3 0 d n) + xS s (ix3 b ⟨j, hj⟩ d) * bS s (ix3 b ⟨j, hj⟩ n) := by
  show (b45 j s : FVec Ideal S4x256x16 .f32) (ix3 b d n) = _
  pointwise [b45, b41, b44, b42, b43, b40, b11, b21, b8, b7, b10, b9]
  rw [slice_x j hj, slice_b j hj, row_word j hj, select_zero _ (Nat.mod_lt _ (by decide))]
  congr 1
  by_cases h : j % 256 = 0
  · rw [if_pos h, if_pos h, zero_mul]
  · rw [if_neg h, if_neg h]

/-- The state since the start of the shard before. -/
theorem step_w (b : Fin 4) (d : Fin 256) (n : Fin 16) : wS (step j s) (ix3 b d n)
    = (if j % 256 = 0 then hS s (ix3 b d n) else wS s (ix3 b d n)) * dS s (ix3 0 d n) + xS s (ix3 b ⟨j, hj⟩ d) * bS s (ix3 b ⟨j, hj⟩ n) := by
  show (b51 j s : FVec Ideal S4x256x16 .f32) (ix3 b d n) = _
  pointwise [b51, b47, b50, b48, b49, b46, b6, b21, b5, b4]
  rw [slice_x j hj, slice_b j hj, row_word j hj, select_zero _ (Nat.mod_lt _ (by decide))]

/-- The row read out. -/
theorem row_out (b : Fin 4) (d : Fin 256) : (b59 j s : FVec Ideal S4x1x256 .f32) (ix3 b 0 d)
    = ∑ n : Fin 16, (if j % 256 < 32 then wS (step j s) (ix3 b d n) else hS (step j s) (ix3 b d n)) * cS s (ix3 b ⟨j, hj⟩ n) := by
  pointwise [b59, b58, b56, b57, b54, b55, b53, b52]
  simp only [slice_c j hj, row_word j hj, select_early _ (Nat.mod_lt j (by decide : 0 < 256)), zero_add]
  rfl

include hj in
theorem slices_row : S4x1024x256.Slices ![0, j, 0] S4x1x256 :=
  ⟨rfl, fun a => by fin_cases a <;> simp [S4x1024x256, S4x1x256] <;> omega⟩

include hj in
/-- The results: row `j` written, the others kept. -/
theorem step_y (b : Fin 4) (t : Fin 1024) (d : Fin 256) : yS (step j s) (ix3 b t d)
    = if t.val = j then ∑ n : Fin 16, (if j % 256 < 32 then wS (step j s) (ix3 b d n) else hS (step j s) (ix3 b d n)) * cS s (ix3 b t n)
      else yS s (ix3 b t d) := by
  show (b68 j s : FVec Ideal S4x1024x256 .f32) (ix3 b t d) = _
  unfold b68
  refine (congrFun (Host.dynamicUpdateSlice_eq_updateSlice (α := EReal) (s := S4x1024x256) (u := S4x1x256) _ _ _ _ ![0, j, 0] ?_
    (slices_row j hj)) _).trans ?_
  · intro a; fin_cases a
    · rfl
    · show (min (max (BitVec.toInt (b65 j s (Shape.Idx.first h_S_))) 0) ((1024 - 1 : ℕ) : Int)).toNat = j
      rw [show BitVec.toInt (b65 j s (Shape.Idx.first h_S_)) = (j : Int) from toInt_index j hj]
      omega
    · rfl
  · unfold updateSlice
    by_cases h : t.val = j
    · subst h
      rw [if_pos rfl, dif_pos]
      · refine Eq.trans ?_ (row_out t.val hj s b d)
        congr 1
        funext a; apply Fin.ext; fin_cases a
        · show b.val - 0 = b.val; omega
        · show t.val - t.val = 0; omega
        · show d.val - 0 = d.val; omega
      · intro a; fin_cases a
        · exact ⟨Nat.zero_le _, by show b.val < 0 + 4; omega⟩
        · exact ⟨le_rfl, by show t.val < t.val + 1; omega⟩
        · exact ⟨Nat.zero_le _, by show d.val < 0 + 256; omega⟩
    · rw [if_neg h, dif_neg]
      intro hin
      have h1 := hin 1
      have h2 : j ≤ t.val ∧ t.val < j + 1 := h1
      omega

end Cert.ReferenceIdeal.Trips

end
-- ==== Proof.Reference.Closed.lean ====
/-
# The reference in closed form

Over the reals the state since the shard's start and the state since the start of the shard before are recurrences, and a
row of the result reads one of them out.
-/
module

public import proofs.«01_k».proof.Proof.Reference.Values
public import proofs.«01_k».proof.Proof.Recurrence

@[expose] public section

noncomputable section

namespace Cert.ReferenceIdeal.Trips

open Cert.ReferenceIdeal Cert.ReferenceIdeal.Gen Cert.ReferenceIdeal.Step Cert.Recurrence
open Idealize.ShloMosaic Idealize.ShloMosaic.Pointwise

variable (x : S4x1024x256.Idx → EReal) (a : S256x16.Idx → EReal) (b c : S4x1024x16.Idx → EReal)

/-- The state after `n` trips, over the reals. -/
abbrev trip (n : ℕ) : State Ideal := iter (F := Ideal) x a b c n

/-! ## What no trip changes -/

theorem trip_x (e : Fin 4) (t : Fin 1024) (d : Fin 256) : ∀ n, xS (trip x a b c n) (ix3 e t d) = x (ix3 e t d)
  | 0 => rfl
  | n + 1 => trip_x e t d n
theorem trip_b (e : Fin 4) (t : Fin 1024) (k : Fin 16) : ∀ n, bS (trip x a b c n) (ix3 e t k) = b (ix3 e t k)
  | 0 => rfl
  | n + 1 => trip_b e t k n
theorem trip_c (e : Fin 4) (t : Fin 1024) (k : Fin 16) : ∀ n, cS (trip x a b c n) (ix3 e t k) = c (ix3 e t k)
  | 0 => rfl
  | n + 1 => trip_c e t k n
theorem trip_d (d : Fin 256) (k : Fin 16) : ∀ n, dS (trip x a b c n) (ix3 0 d k) = Ideal.exp (a (ix2 d k))
  | 0 => by
    show (A_main_v5 (F := Ideal) x a b c : S1x256x16.Idx → EReal) (ix3 0 d k) = _
    pointwise [A_main_v5, A_main_v4, A_main_v1]
  | n + 1 => trip_d d k n

/-! ## The two states -/

/-- What position `t` adds to the state. -/
def inflow (e : Fin 4) (k : Fin 16) (d : Fin 256) (t : ℕ) : EReal := x (ix3 e (Fin.ofNat 1024 t) d) * b (ix3 e (Fin.ofNat 1024 t) k)

variable (e : Fin 4) (d : Fin 256) (k : Fin 16)

theorem trip_h_zero : hS (trip x a b c 0) (ix3 e d k) = 0 := by
  show (K_main_v6 (F := Ideal) : S4x256x16.Idx → EReal) (ix3 e d k) = _
  pointwise [K_main_v6, K_main_cst]
theorem trip_w_zero : wS (trip x a b c 0) (ix3 e d k) = 0 := by
  show (K_main_v6 (F := Ideal) : S4x256x16.Idx → EReal) (ix3 e d k) = _
  pointwise [K_main_v6, K_main_cst]

theorem trip_h_succ (n : ℕ) (hn : n < 1024) : hS (trip x a b c (n + 1)) (ix3 e d k)
    = (if n % 256 = 0 then 0 else hS (trip x a b c n) (ix3 e d k)) * Ideal.exp (a (ix2 d k)) + inflow x b e k d n := by
  refine (step_h n hn _ e d k).trans ?_
  rw [trip_x, trip_b, trip_d, inflow, show (⟨n, hn⟩ : Fin 1024) = Fin.ofNat 1024 n from Fin.ext (Nat.mod_eq_of_lt hn).symm]
theorem trip_w_succ (n : ℕ) (hn : n < 1024) : wS (trip x a b c (n + 1)) (ix3 e d k)
    = (if n % 256 = 0 then hS (trip x a b c n) (ix3 e d k) else wS (trip x a b c n) (ix3 e d k)) * Ideal.exp (a (ix2 d k)) + inflow x b e k d n := by
  refine (step_w n hn _ e d k).trans ?_
  rw [trip_x, trip_b, trip_d, inflow, show (⟨n, hn⟩ : Fin 1024) = Fin.ofNat 1024 n from Fin.ext (Nat.mod_eq_of_lt hn).symm]

/-- The state since the shard's start, `r + 1` rows into shard `q`. -/
theorem trip_h (q : ℕ) (hq : q < 4) : ∀ r, r < 256 → hS (trip x a b c (256 * q + r + 1)) (ix3 e d k)
    = Recurrence.run (Ideal.exp (a (ix2 d k))) (fun t => inflow x b e k d (256 * q + t)) 0 (r + 1)
  | 0, _ => by rw [trip_h_succ _ _ _ _ _ _ _ _ (by omega), if_pos (by omega)]; rfl
  | r + 1, hr => by
    rw [trip_h_succ _ _ _ _ _ _ _ _ (by omega), if_neg (by omega), show 256 * q + (r + 1) = 256 * q + r + 1 from rfl, trip_h q hq r (by omega)]
    rfl

/-- The state the shard before left. -/
def before (q : ℕ) : EReal := match q with
  | 0 => 0
  | p + 1 => Recurrence.run (Ideal.exp (a (ix2 d k))) (fun t => inflow x b e k d (256 * p + t)) 0 256

theorem before_zero : before x a b e d k 0 = 0 := rfl
theorem before_succ (p : ℕ) : before x a b e d k (p + 1) = Recurrence.run (Ideal.exp (a (ix2 d k))) (fun t => inflow x b e k d (256 * p + t)) 0 256 := rfl

theorem trip_h_before : ∀ q, q < 4 → hS (trip x a b c (256 * q)) (ix3 e d k) = before x a b e d k q
  | 0, _ => trip_h_zero x a b c e d k
  | p + 1, h => trip_h x a b c e d k p (by omega) 255 (by omega)

/-- The state since the start of the shard before, `r + 1` rows into shard `q`. -/
theorem trip_w (q : ℕ) (hq : q < 4) : ∀ r, r < 256 → wS (trip x a b c (256 * q + r + 1)) (ix3 e d k)
    = Recurrence.run (Ideal.exp (a (ix2 d k))) (fun t => inflow x b e k d (256 * q + t)) (before x a b e d k q) (r + 1)
  | 0, _ => by rw [trip_w_succ _ _ _ _ _ _ _ _ (by omega), if_pos (by omega), Nat.add_zero, trip_h_before x a b c e d k q hq]; rfl
  | r + 1, hr => by
    rw [trip_w_succ _ _ _ _ _ _ _ _ (by omega), if_neg (by omega), show 256 * q + (r + 1) = 256 * q + r + 1 from rfl, trip_w q hq r (by omega)]
    rfl

/-! ## The result -/

/-- A row keeps what was written when its position was passed. -/
theorem trip_y (t : Fin 1024) : ∀ n, n ≤ 1024 → t.val < n → yS (trip x a b c n) (ix3 e t d)
    = ∑ k : Fin 16, (if t.val % 256 < 32 then wS (trip x a b c (t.val + 1)) (ix3 e d k) else hS (trip x a b c (t.val + 1)) (ix3 e d k)) * c (ix3 e t k)
  | 0, _, h => absurd h (Nat.not_lt_zero _)
  | n + 1, hn, ht => by
    refine (step_y n (by omega) _ e t d).trans ?_
    by_cases h : t.val = n
    · rw [if_pos h]
      subst h
      refine Finset.sum_congr rfl fun k _ => ?_
      rw [trip_c]
      rfl
    · rw [if_neg h]
      exact trip_y t n (by omega) (by omega)

/-- The result at row `r` of shard `q`: the first 32 rows of a shard read out the state since the start of the shard
    before, the others the state since the start of their own. -/
theorem result_apply (q : ℕ) (hq : q < 4) (r : Fin 256) (t : Fin 1024) (ht : t.val = 256 * q + r.val) :
    yS (trip x a b c 1024) (ix3 e t d)
      = ∑ k : Fin 16, Recurrence.run (Ideal.exp (a (ix2 d k))) (fun s => inflow x b e k d (256 * q + s)) (if r.val < 32 then before x a b e d k q else 0) (r.val + 1)
          * c (ix3 e t k) := by
  rw [trip_y x a b c e d t 1024 le_rfl t.isLt]
  refine Finset.sum_congr rfl fun k _ => ?_
  rw [ht, trip_w x a b c e d k q hq r.val r.isLt, trip_h x a b c e d k q hq r.val r.isLt, show (256 * q + r.val) % 256 = r.val by omega]
  by_cases h : r.val < 32
  · rw [if_pos h, if_pos h]
  · rw [if_neg h, if_neg h]

end Cert.ReferenceIdeal.Trips

end
-- ==== Proof.Algebra.lean ====
/-
# The kernel's results are the reference's

Of finite arguments, device `c`'s result is block `c` of the reference's. A row of a shard past the first 32 is on both
sides the recurrence from the shard's start. A row among the first 32 is, in the reference, the recurrence from the state
the shard before left; in the kernel, the recurrence from zero with that state, scaled by the decay of the positions
since, added. Over real numbers these are equal; this is where finiteness is used.
-/
module

public import proofs.«01_k».proof.Defs
public import proofs.«01_k».proof.Proof.KernelIdeal.Launch
public import proofs.«01_k».proof.Proof.KernelIdeal.Reals
public import proofs.«01_k».proof.Proof.Reference.Closed
public import proofs.«01_k».proof.Proof.Gen.Pre_finite_KernelIdeal

@[expose] public section

noncomputable section

namespace Cert.Algebra

open Idealize.ShloMosaic Idealize.ShloMosaic.TcCoe Idealize.ShloMosaic.Pointwise Idealize.SL.Sem
open Cert.Recurrence
open Cert.KernelIdeal (S4x256x256 S4x256x16 S256x16)
open Cert.ReferenceIdeal (S4x1024x256 S4x1024x16)

/-! ## A device's block -/

theorem block_wide (c : Fin 4) (v : S4x1024x256.Idx → EReal) (e : Fin 4) (r d : Fin 256) :
    Layout.block S4x256x256 S4x1024x256 1 4 c v (by decide) (ix3 e r d) = v (ix3 e ⟨256 * c.val + r.val, by omega⟩ d) := by
  refine congrArg v (funext fun i => Fin.ext ?_)
  rw [Layout.Tiles.idx_val]
  fin_cases i
  · rfl
  · show c.val * 256 + r.val = 256 * c.val + r.val; omega
  · rfl

theorem block_narrow (c : Fin 4) (v : S4x1024x16.Idx → EReal) (e : Fin 4) (r : Fin 256) (n : Fin 16) :
    Layout.block S4x256x16 S4x1024x16 1 4 c v (by decide) (ix3 e r n) = v (ix3 e ⟨256 * c.val + r.val, by omega⟩ n) := by
  refine congrArg v (funext fun i => Fin.ext ?_)
  rw [Layout.Tiles.idx_val]
  fin_cases i
  · rfl
  · show c.val * 256 + r.val = 256 * c.val + r.val; omega
  · rfl

abbrev wide (c : Fin 4) (v : S4x1024x256.Idx → EReal) : S4x256x256.Idx → EReal := Layout.block S4x256x256 S4x1024x256 1 4 c v (by decide)
abbrev narrow (c : Fin 4) (v : S4x1024x16.Idx → EReal) : S4x256x16.Idx → EReal := Layout.block S4x256x16 S4x1024x16 1 4 c v (by decide)

section Arrays

variable (x : S4x1024x256.Idx → EReal) (a : S256x16.Idx → EReal) (b c : S4x1024x16.Idx → EReal)

/-- What a position adds to the state is the same on a device as in the whole sequence. -/
theorem inflow_block (q : Fin 4) (e : Fin 4) (n : Fin 16) (d : Fin 256) (t : ℕ) (ht : t < 256) :
    KernelIdeal.Ring.inflow (wide q x) (narrow q b) e n d t = ReferenceIdeal.Trips.inflow x b e n d (256 * q.val + t) := by
  have h : (⟨256 * q.val + (Fin.ofNat 256 t).val, by omega⟩ : Fin 1024) = Fin.ofNat 1024 (256 * q.val + t) := by
    apply Fin.ext
    show 256 * q.val + t % 256 = (256 * q.val + t) % 1024
    omega
  rw [KernelIdeal.Ring.inflow, ReferenceIdeal.Trips.inflow, wide, narrow, block_wide, block_narrow, h]

theorem run_block (q : Fin 4) (e : Fin 4) (n : Fin 16) (d : Fin 256) (D g : EReal) (k : ℕ) (hk : k ≤ 256) :
    run D (KernelIdeal.Ring.inflow (wide q x) (narrow q b) e n d) g k
      = run D (fun t => ReferenceIdeal.Trips.inflow x b e n d (256 * q.val + t)) g k :=
  run_congr _ _ _ _ _ fun t ht => inflow_block x b q e n d t (by omega)

/-- The reference's result. -/
abbrev whole : S4x1024x256.Idx → EReal := ReferenceIdeal.Trips.yS (ReferenceIdeal.Trips.trip x a b c 1024)

/-- Device `q`'s result of its block and of the state device `p` sends it. -/
def part (p q : Fin 4) : S4x256x256.Idx → EReal :=
  if q = 0 then KernelIdeal.Ring.outLocal (F := Ideal) a (wide q x) (narrow q b) (narrow q c)
  else KernelIdeal.Ring.corrected (F := Ideal) a (narrow q c) (KernelIdeal.Ring.hend (F := Ideal) a (wide p x) (narrow p b))
    (KernelIdeal.Ring.outLocal (F := Ideal) a (wide q x) (narrow q b) (narrow q c))

variable (hx : ∀ i, IsReal (x i)) (ha : ∀ i, IsReal (a i)) (hb : ∀ i, IsReal (b i)) (hc : ∀ i, IsReal (c i))

theorem exp_real {y : EReal} : IsReal y → IsReal (Ideal.exp y)
  | ⟨r, hr⟩ => ⟨Real.exp r, by rw [hr]; rfl⟩

include hx ha hb hc in
theorem part_apply (q : Fin 4) (p : Fin 4) (hp : q ≠ 0 → q.val = p.val + 1) (e : Fin 4) (r d : Fin 256) :
    part x a b c p q (ix3 e r d)
      = ∑ n : Fin 16, run (Ideal.exp (a (ix2 d n))) (fun s => ReferenceIdeal.Trips.inflow x b e n d (256 * q.val + s))
          (if r.val < 32 then ReferenceIdeal.Trips.before x a b e d n q.val else 0) (r.val + 1) * c (ix3 e ⟨256 * q.val + r.val, by omega⟩ n) := by
  unfold part
  by_cases hq : q = 0
  · subst hq
    rw [if_pos rfl, KernelIdeal.Ring.outLocal_apply]
    refine Finset.sum_congr rfl fun n _ => ?_
    rw [run_block x b 0 e n d _ _ _ (by omega), narrow, block_narrow, mul_comm]
    by_cases hr : r.val < 32
    · rw [if_pos hr, show ReferenceIdeal.Trips.before x a b e d n (0 : Fin 4).val = 0 from ReferenceIdeal.Trips.before_zero x a b e d n]
    · rw [if_neg hr]
  · rw [if_neg hq, KernelIdeal.Ring.corrected_apply, KernelIdeal.Ring.outLocal_apply]
    by_cases hr : r.val < 32
    · rw [if_pos hr, ← Finset.sum_add_distrib]
      refine Finset.sum_congr rfl fun n _ => ?_
      rw [if_pos hr, run_block x b q e n d _ _ _ (by omega), KernelIdeal.Ring.hend_apply, run_block x b p e n d _ _ _ le_rfl,
        narrow, block_narrow]
      have hD : IsReal (Ideal.exp (a (ix2 d n))) := exp_real (ha _)
      have hu : ∀ s t : ℕ, IsReal (ReferenceIdeal.Trips.inflow x b e n d (s + t)) := fun s t => (hx _).mul (hb _)
      have hg := IsReal.run hD (hu (256 * p.val)) IsReal.zero 256
      rw [show ReferenceIdeal.Trips.before x a b e d n q.val
          = run (Ideal.exp (a (ix2 d n))) (fun t => ReferenceIdeal.Trips.inflow x b e n d (256 * p.val + t)) 0 256 from by rw [hp hq, ReferenceIdeal.Trips.before_succ],
        run_split hD (hu _) hg, add_mul_real (IsReal.run hD (hu _) IsReal.zero _) (IsReal.run hD (fun _ => IsReal.zero) hg _) (hc _),
        mul_comm, mul_comm (c _)]
    · rw [if_neg hr]
      refine Finset.sum_congr rfl fun n _ => ?_
      rw [run_block x b q e n d _ _ _ (by omega), narrow, block_narrow, mul_comm, if_neg hr]

include hx ha hb hc in
/-- Device `q`'s result is block `q` of the reference's. -/
theorem part_eq (q : Fin 4) (p : Fin 4) (hp : q ≠ 0 → q.val = p.val + 1) : part x a b c p q = wide q (whole x a b c) := by
  funext i
  rw [← ix3_eta i]
  exact (part_apply x a b c hx ha hb hc q p hp (i 0) (i 1) (i 2)).trans
    ((ReferenceIdeal.Trips.result_apply x a b c (i 0) (i 2) q.val q.isLt (i 1) ⟨256 * q.val + (i 1).val, by have h : (i 1).val < 256 := (i 1).isLt; omega⟩ rfl).symm.trans
      (block_wide q (whole x a b c) (i 0) (i 1) (i 2)).symm)

end Arrays

/-! ## The precondition -/

theorem real_of_lt {y : EReal} (h : Ideal.cmp .olt (max y (-y)) ⊤ = 1#1) : IsReal y := by
  induction y with
  | bot => exact absurd h (by simp [Ideal.cmp])
  | top => exact absurd h (by simp [Ideal.cmp])
  | coe r => exact ⟨r, rfl⟩

/-! ## A device's arguments -/

section Run

variable (m : (ℓ : Loc KernelIdeal.nD KernelIdeal.τ KernelIdeal.sig) → Buf (Elt Ideal) ℓ)

/-- The precondition, entry by entry. -/
theorem real_args (h : Cert.Pre_KernelIdeal_finite_KernelIdeal m) (c : Dev KernelIdeal.nD) :
    (∀ i : S4x256x256.Idx, IsReal (m ((c : Thread KernelIdeal.nD KernelIdeal.τ).loc KernelIdeal.main_arg0) i))
    ∧ (∀ i : S256x16.Idx, IsReal (m ((c : Thread KernelIdeal.nD KernelIdeal.τ).loc KernelIdeal.main_arg1) i))
    ∧ (∀ i : S4x256x16.Idx, IsReal (m ((c : Thread KernelIdeal.nD KernelIdeal.τ).loc KernelIdeal.main_arg2) i))
    ∧ (∀ i : S4x256x16.Idx, IsReal (m ((c : Thread KernelIdeal.nD KernelIdeal.τ).loc KernelIdeal.main_arg3) i)) := by
  obtain ⟨h0, h1, h2, h3⟩ := h c
  have top : (FloatOps.ofBits (F := Ideal) .f32 0x7F800000#32 : EReal) = ⊤ := by
    show Ideal.ofBits .f32 0x7F800000#32 = ⊤
    simp [Ideal.ofBits, Ideal.ieee]
  refine ⟨fun i => real_of_lt ?_, fun i => real_of_lt ?_, fun i => real_of_lt ?_, fun i => real_of_lt ?_⟩
  · have := congrFun h0 i
    rw [← top]
    exact this
  · have := congrFun h1 i
    rw [← top]
    exact this
  · have := congrFun h2 i
    rw [← top]
    exact this
  · have := congrFun h3 i
    rw [← top]
    exact this

open Cert.KernelIdeal Cert.KernelIdeal.Gen in
theorem xAt_eq (c : Dev KernelIdeal.nD) : KernelIdeal.Ring.xAt m c = m ((c : Thread KernelIdeal.nD KernelIdeal.τ).loc KernelIdeal.main_arg0) := by
  funext y
  refine congrArg (m ((c : Thread KernelIdeal.nD KernelIdeal.τ).loc KernelIdeal.main_arg0)) (funext fun a => Fin.ext ?_)
  exact Pipeline.Window.rect_emb_val_of_index_zero win0_0 t0_0 a rfl y
open Cert.KernelIdeal Cert.KernelIdeal.Gen in
theorem aAt_eq (c : Dev KernelIdeal.nD) : KernelIdeal.Ring.aAt m c = m ((c : Thread KernelIdeal.nD KernelIdeal.τ).loc KernelIdeal.main_arg1) := by
  funext y
  refine congrArg (m ((c : Thread KernelIdeal.nD KernelIdeal.τ).loc KernelIdeal.main_arg1)) (funext fun a => Fin.ext ?_)
  exact Pipeline.Window.rect_emb_val_of_index_zero win0_1 t0_0 a rfl y
open Cert.KernelIdeal Cert.KernelIdeal.Gen in
theorem bAt_eq (c : Dev KernelIdeal.nD) : KernelIdeal.Ring.bAt m c = m ((c : Thread KernelIdeal.nD KernelIdeal.τ).loc KernelIdeal.main_arg2) := by
  funext y
  refine congrArg (m ((c : Thread KernelIdeal.nD KernelIdeal.τ).loc KernelIdeal.main_arg2)) (funext fun a => Fin.ext ?_)
  exact Pipeline.Window.rect_emb_val_of_index_zero win0_2 t0_0 a rfl y
open Cert.KernelIdeal Cert.KernelIdeal.Gen in
theorem cAt_eq (c : Dev KernelIdeal.nD) : KernelIdeal.Ring.cAt m c = m ((c : Thread KernelIdeal.nD KernelIdeal.τ).loc KernelIdeal.main_arg3) := by
  funext y
  refine congrArg (m ((c : Thread KernelIdeal.nD KernelIdeal.τ).loc KernelIdeal.main_arg3)) (funext fun a => Fin.ext ?_)
  exact Pipeline.Window.rect_emb_val_of_index_zero win0_3 t0_0 a rfl y

/-- A position of the whole sequence is a position of one device's block. -/
theorem real_wide (v : S4x1024x256.Idx → EReal) (h : ∀ (q : Fin 4) i, IsReal (wide q v i)) (i : S4x1024x256.Idx) : IsReal (v i) := by
  have h1 : (i 1).val < 1024 := (i 1).isLt
  have := (congrArg IsReal (block_wide ⟨(i 1).val / 256, by omega⟩ v (i 0) ⟨(i 1).val % 256, by omega⟩ (i 2))).mp (h _ _)
  rw [← ix3_eta i]
  refine Eq.mp (congrArg IsReal (congrArg v ?_)) this
  congr 1
  exact Fin.ext (Nat.div_add_mod _ _)
theorem real_narrow (v : S4x1024x16.Idx → EReal) (h : ∀ (q : Fin 4) i, IsReal (narrow q v i)) (i : S4x1024x16.Idx) : IsReal (v i) := by
  have h1 : (i 1).val < 1024 := (i 1).isLt
  have := (congrArg IsReal (block_narrow ⟨(i 1).val / 256, by omega⟩ v (i 0) ⟨(i 1).val % 256, by omega⟩ (i 2))).mp (h _ _)
  rw [← ix3_eta i]
  refine Eq.mp (congrArg IsReal (congrArg v ?_)) this
  congr 1
  exact Fin.ext (Nat.div_add_mod _ _)

variable (x : S4x1024x256.Idx → EReal) (a : S256x16.Idx → EReal) (b c : S4x1024x16.Idx → EReal)

/-- Each device's arguments are its part of the whole arrays. -/
abbrev Held : Prop := ∀ q : Dev KernelIdeal.nD,
  m ((q : Thread KernelIdeal.nD KernelIdeal.τ).loc KernelIdeal.main_arg0) = wide q x
  ∧ m ((q : Thread KernelIdeal.nD KernelIdeal.τ).loc KernelIdeal.main_arg1) = a
  ∧ m ((q : Thread KernelIdeal.nD KernelIdeal.τ).loc KernelIdeal.main_arg2) = narrow q b
  ∧ m ((q : Thread KernelIdeal.nD KernelIdeal.τ).loc KernelIdeal.main_arg3) = narrow q c

theorem outAt_eq (h : Held m x a b c) (q : Dev KernelIdeal.nD) : KernelIdeal.Ring.outAt m q = part x a b c (KernelIdeal.Ring.prv q) q := by
  unfold KernelIdeal.Ring.outAt KernelIdeal.Ring.endAt part
  rw [xAt_eq, aAt_eq, bAt_eq, cAt_eq, xAt_eq, aAt_eq, bAt_eq, (h q).1, (h q).2.1, (h q).2.2.1, (h q).2.2.2,
    (h (KernelIdeal.Ring.prv q)).1, (h (KernelIdeal.Ring.prv q)).2.1, (h (KernelIdeal.Ring.prv q)).2.2.1]

theorem prv_before : ∀ q : Fin 4, q ≠ 0 → q.val = (KernelIdeal.Ring.prv q).val + 1 := by
  intro q hq
  have h0 : q.val ≠ 0 := fun h => hq (Fin.ext h)
  show q.val = (q.val + 3) % 4 + 1
  omega

/-- Device `q`'s result is its part of the reference's. -/
theorem result (hp : Cert.Pre_KernelIdeal_finite_KernelIdeal m) (h : Held m x a b c) (q : Dev KernelIdeal.nD) :
    KernelIdeal.Ring.outAt m q = wide q (whole x a b c) := by
  rw [outAt_eq m x a b c h q]
  refine part_eq x a b c (real_wide x fun q i => ?_) (fun i => ?_) (real_narrow b fun q i => ?_) (real_narrow c fun q i => ?_) q _ (prv_before q)
  · rw [← (h q).1]; exact (real_args m hp q).1 i
  · rw [← (h 0).2.1]; exact (real_args m hp 0).2.1 i
  · rw [← (h q).2.2.1]; exact (real_args m hp q).2.2.1 i
  · rw [← (h q).2.2.2]; exact (real_args m hp q).2.2.2 i

end Run

/-- The kernel on four devices and the reference on one: of finite arguments, the kernel's results are the reference's. -/
theorem algebraic : Cert.algebraic_KernelIdeal_ReferenceIdeal_pre_finite_KernelIdeal := by
  intro m g m' g' hp h
  refine ⟨whole (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3)), ?_, ?_⟩
  · refine (θ_run KernelIdeal.defs _ _).mono (fun r hr c => ⟨((hr.1 c).1).trans ?_, (hr.1 c).2⟩) (KernelIdeal.Ring.run m g)
    exact result m _ _ _ _ hp h c
  · exact (θ_run ReferenceIdeal.defs _ _).mono (fun r hr => hr 0) (ReferenceIdeal.Trips.run m' g')

end Cert.Algebra

end
-- ==== Proof.lean ====
/-
# The certificate

`Kernel` and `KernelIdeal` are the same program, read over machine floats and over the extended reals; both run by the
same proof, which fixes neither. The reference runs as a loop of 1024 steps. Of finite arguments the kernel's results are
the reference's (Proof/Algebra.lean).
-/
module

public import proofs.«01_k».proof.Defs
public import proofs.«01_k».proof.Proof.Algebra
public import proofs.«01_k».proof.Proof.Kernel.Launch
public import proofs.«01_k».proof.Proof.KernelIdeal.Launch
public import proofs.«01_k».proof.Proof.Reference.Trips
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

/-- The kernel over machine floats runs on the four devices, its arguments unchanged and every semaphore back at zero. -/
theorem frame_kernel : Cert.quiescent_Kernel := fun m g _ =>
  (θ_run Cert.Kernel.defs _ _).mono (fun _ h => ⟨fun c => (h.1 c).2, h.2⟩) (Cert.Kernel.Ring.run m g)

/-- The kernel over the extended reals runs likewise. -/
theorem frame_kernelIdeal : Cert.quiescent_KernelIdeal := fun m g _ =>
  (θ_run Cert.KernelIdeal.defs _ _).mono (fun _ h => ⟨fun c => (h.1 c).2, h.2⟩) (Cert.KernelIdeal.Ring.run m g)

/-- The same of finite arguments. -/
theorem frame_kernelIdeal_finite : Cert.quiescent_KernelIdeal_pre_finite_KernelIdeal := fun m g _ => frame_kernelIdeal m g trivial

/-- The reference runs, its arguments unchanged; it has no semaphores. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Trips.run m g)

/-- The same of finite arguments. -/
theorem frame_reference_finite : Cert.quiescent_ReferenceIdeal_pre_finite_ReferenceIdeal := fun m g _ => frame_reference m g trivial

/-- Every claim of the certificate. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_finite, frame_reference, frame_reference_finite, trivial, Cert.Algebra.algebraic⟩

end Cert.Proof

end
